-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x64 : Shape := ⟨2, ![2048, 64]⟩
abbrev S32x64x2048 : Shape := ⟨3, ![32, 64, 2048]⟩
abbrev S17 : Shape := ⟨1, ![17]⟩
abbrev S16 : Shape := ⟨1, ![16]⟩
abbrev S_ : Shape := ⟨0, ![]⟩
abbrev S1x64x2048 : Shape := ⟨3, ![1, 64, 2048]⟩
abbrev S1 : Shape := ⟨1, ![1]⟩
abbrev S64x64 : Shape := ⟨2, ![64, 64]⟩

abbrev nBuf : Space → Nat
  | .hbm => 3
  | .vmem => 4
  | .smem => 0
  | _ => 0

abbrev bufTy : (tb : Table) → Fin (tcTables nBuf tb) → BufTy
  | .hbm, ⟨0, _⟩ => ⟨S64x2048, .f32⟩
  | .hbm, ⟨1, _⟩ => ⟨S2048x64, .f32⟩
  | .hbm, ⟨2, _⟩ => ⟨S2048x64, .f32⟩
  | .local _ .vmem, ⟨0, _⟩ => ⟨S64x2048, .f32⟩
  | .local _ .vmem, ⟨1, _⟩ => ⟨S2048x64, .f32⟩
  | .local _ .vmem, ⟨2, _⟩ => ⟨S2048x64, .f32⟩
  | .local _ .vmem, ⟨3, _⟩ => ⟨S32x64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_18 : BitVec 32 := 1#32
  let v18 : BitVec 32 := Scalar.muli v7 c1_i32_18
  let v19 : BitVec 32 := Scalar.addi c0_i32_19 v18
  v19.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_27 : BitVec 32 := 1#32
  let v28 : BitVec 32 := Scalar.muli v5 c1_i32_27
  let v29 : BitVec 32 := Scalar.addi c0_i32_28 v28
  v29.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v43 : BitVec 32 := Scalar.muli v2 c64_i32
  let v44 : Index := Scalar.indexCast v43
  let c0_38 : Index := 0#32
  ![v44.toNat, 0]
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_53 : BitVec 32 := 1#32
  let v54 : BitVec 32 := Scalar.muli v7 c1_i32_53
  let v55 : BitVec 32 := Scalar.addi c0_i32_54 v54
  v55.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_72 : BitVec 32 := 1#32
  let v72 : BitVec 32 := Scalar.muli v5 c1_i32_72
  let v73 : BitVec 32 := Scalar.addi c0_i32_73 v72
  v73.toNat
def k0_off2 (d0 : Dev nD) (c1_i32_78 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v82 : BitVec 32 := Scalar.subi v2 c1_i32_78
  let c32_i32_79 : BitVec 32 := 32#32
  let v83 : BitVec 32 := Scalar.addi v82 c32_i32_79
  let c32_i32_80 : BitVec 32 := 32#32
  let v84 : BitVec 32 := Scalar.remsi v83 c32_i32_80
  let c64_i32_86 : BitVec 32 := 64#32
  let v90 : BitVec 32 := Scalar.muli v84 c64_i32_86
  let v91 : Index := Scalar.indexCast v90
  let c0_87 : Index := 0#32
  ![v91.toNat, 0]
def k0_off3 (d0 : Dev nD) (c1_i32_88 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v93 : BitVec 32 := Scalar.addi v2 c1_i32_88
  let c32_i32_89 : BitVec 32 := 32#32
  let v94 : BitVec 32 := Scalar.remsi v93 c32_i32_89
  let c64_i32_95 : BitVec 32 := 64#32
  let v100 : BitVec 32 := Scalar.muli v94 c64_i32_95
  let v101 : Index := Scalar.indexCast v100
  let c0_96 : Index := 0#32
  ![v101.toNat, 0]
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_110 : BitVec 32 := 1#32
  let v111 : BitVec 32 := Scalar.muli v7 c1_i32_110
  let v112 : BitVec 32 := Scalar.addi c0_i32_111 v111
  v112.toNat
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_129 : BitVec 32 := 1#32
  let v129 : BitVec 32 := Scalar.muli v5 c1_i32_129
  let v130 : BitVec 32 := Scalar.addi c0_i32_130 v129
  v130.toNat
def k0_dev9 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_167 : BitVec 32 := 1#32
  let v168 : BitVec 32 := Scalar.muli v7 c1_i32_167
  let v169 : BitVec 32 := Scalar.addi c0_i32_168 v168
  v169.toNat
def k0_dev10 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_186 : BitVec 32 := 1#32
  let v186 : BitVec 32 := Scalar.muli v5 c1_i32_186
  let v187 : BitVec 32 := Scalar.addi c0_i32_187 v186
  v187.toNat
def k0_dev11 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_224 : BitVec 32 := 1#32
  let v225 : BitVec 32 := Scalar.muli v7 c1_i32_224
  let v226 : BitVec 32 := Scalar.addi c0_i32_225 v225
  v226.toNat
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_243 : BitVec 32 := 1#32
  let v243 : BitVec 32 := Scalar.muli v5 c1_i32_243
  let v244 : BitVec 32 := Scalar.addi c0_i32_244 v243
  v244.toNat
def k0_dev13 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_281 : BitVec 32 := 1#32
  let v282 : BitVec 32 := Scalar.muli v7 c1_i32_281
  let v283 : BitVec 32 := Scalar.addi c0_i32_282 v282
  v283.toNat
def k0_dev14 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_300 : BitVec 32 := 1#32
  let v300 : BitVec 32 := Scalar.muli v5 c1_i32_300
  let v301 : BitVec 32 := Scalar.addi c0_i32_301 v300
  v301.toNat
def k0_dev15 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_338 : BitVec 32 := 1#32
  let v339 : BitVec 32 := Scalar.muli v7 c1_i32_338
  let v340 : BitVec 32 := Scalar.addi c0_i32_339 v339
  v340.toNat
def k0_dev16 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_357 : BitVec 32 := 1#32
  let v357 : BitVec 32 := Scalar.muli v5 c1_i32_357
  let v358 : BitVec 32 := Scalar.addi c0_i32_358 v357
  v358.toNat
def k0_dev17 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_395 : BitVec 32 := 1#32
  let v396 : BitVec 32 := Scalar.muli v7 c1_i32_395
  let v397 : BitVec 32 := Scalar.addi c0_i32_396 v396
  v397.toNat
def k0_dev18 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_414 : BitVec 32 := 1#32
  let v414 : BitVec 32 := Scalar.muli v5 c1_i32_414
  let v415 : BitVec 32 := Scalar.addi c0_i32_415 v414
  v415.toNat
def k0_dev19 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_452 : BitVec 32 := 1#32
  let v453 : BitVec 32 := Scalar.muli v7 c1_i32_452
  let v454 : BitVec 32 := Scalar.addi c0_i32_453 v453
  v454.toNat
def k0_dev20 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_471 : BitVec 32 := 1#32
  let v471 : BitVec 32 := Scalar.muli v5 c1_i32_471
  let v472 : BitVec 32 := Scalar.addi c0_i32_472 v471
  v472.toNat
def k0_dev21 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_509 : BitVec 32 := 1#32
  let v510 : BitVec 32 := Scalar.muli v7 c1_i32_509
  let v511 : BitVec 32 := Scalar.addi c0_i32_510 v510
  v511.toNat
def k0_dev22 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_528 : BitVec 32 := 1#32
  let v528 : BitVec 32 := Scalar.muli v5 c1_i32_528
  let v529 : BitVec 32 := Scalar.addi c0_i32_529 v528
  v529.toNat
def k0_dev23 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_566 : BitVec 32 := 1#32
  let v567 : BitVec 32 := Scalar.muli v7 c1_i32_566
  let v568 : BitVec 32 := Scalar.addi c0_i32_567 v567
  v568.toNat
def k0_dev24 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_585 : BitVec 32 := 1#32
  let v585 : BitVec 32 := Scalar.muli v5 c1_i32_585
  let v586 : BitVec 32 := Scalar.addi c0_i32_586 v585
  v586.toNat
def k0_dev25 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_623 : BitVec 32 := 1#32
  let v624 : BitVec 32 := Scalar.muli v7 c1_i32_623
  let v625 : BitVec 32 := Scalar.addi c0_i32_624 v624
  v625.toNat
def k0_dev26 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_642 : BitVec 32 := 1#32
  let v642 : BitVec 32 := Scalar.muli v5 c1_i32_642
  let v643 : BitVec 32 := Scalar.addi c0_i32_643 v642
  v643.toNat
def k0_dev27 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_680 : BitVec 32 := 1#32
  let v681 : BitVec 32 := Scalar.muli v7 c1_i32_680
  let v682 : BitVec 32 := Scalar.addi c0_i32_681 v681
  v682.toNat
def k0_dev28 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_699 : BitVec 32 := 1#32
  let v699 : BitVec 32 := Scalar.muli v5 c1_i32_699
  let v700 : BitVec 32 := Scalar.addi c0_i32_700 v699
  v700.toNat
def k0_dev29 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_737 : BitVec 32 := 1#32
  let v738 : BitVec 32 := Scalar.muli v7 c1_i32_737
  let v739 : BitVec 32 := Scalar.addi c0_i32_738 v738
  v739.toNat
def k0_dev30 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_756 : BitVec 32 := 1#32
  let v756 : BitVec 32 := Scalar.muli v5 c1_i32_756
  let v757 : BitVec 32 := Scalar.addi c0_i32_757 v756
  v757.toNat
def k0_dev31 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_794 : BitVec 32 := 1#32
  let v795 : BitVec 32 := Scalar.muli v7 c1_i32_794
  let v796 : BitVec 32 := Scalar.addi c0_i32_795 v795
  v796.toNat
def k0_dev32 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_813 : BitVec 32 := 1#32
  let v813 : BitVec 32 := Scalar.muli v5 c1_i32_813
  let v814 : BitVec 32 := Scalar.addi c0_i32_814 v813
  v814.toNat
def k0_dev33 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_851 : BitVec 32 := 1#32
  let v852 : BitVec 32 := Scalar.muli v7 c1_i32_851
  let v853 : BitVec 32 := Scalar.addi c0_i32_852 v852
  v853.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
The kernel's body written once more, with the hop as a parameter.

The printed body lists every transfer, wait and product of the bidirectional ring one after another. Here a communication
slot, a semaphore of an array, a transfer, a wait and a product are functions of the index they name, the fourteen hops on
which both directions travel are one function of the hop, and the drains at the end are one function of the transfer they
wait for. `body_eq` says that the printed body is this program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Ring

open Cert.KernelIdeal Cert.KernelIdeal.Gen
open Idealize.ShloMosaic Idealize.SL.Sem

variable {F : FTy → Type} [FloatOps F]

/-! ## Buffers and semaphores -/

/-- The device's rows of `x`, its columns of `w`, its columns of the result, and the thirty-two communication slots. -/
abbrev xM : Memref sig .tc .vmem S64x2048 .f32 := Memref.whole cc0_stg0_0
abbrev wM : Memref sig .tc .vmem S2048x64 .f32 := Memref.whole cc0_stg1_0
abbrev oM : Memref sig .tc .vmem S2048x64 .f32 := Memref.whole cc0_stg2_0
abbrev cM : Memref sig .tc .vmem S32x64x2048 .f32 := Memref.whole cc0_scratch0

theorem slot_inb (s : Fin 32) : ∀ a, (![s.val, 0, 0] : Fin 3 → ℕ) a + S1x64x2048.size a ≤ S32x64x2048.size a := by
  revert s; decide
theorem sem17_inb (h : Fin 17) : ∀ a, (![h.val] : Fin 1 → ℕ) a + S1.size a ≤ S17.size a := by revert h; decide
theorem sem16_inb (h : Fin 16) : ∀ a, (![h.val] : Fin 1 → ℕ) a + S1.size a ≤ S16.size a := by revert h; decide

/-- The rectangle of slot `s` in the communication buffer. -/
abbrev slotR (s : Fin 32) : Rect S32x64x2048 := Rect.unit (s := S32x64x2048) ![s.val, 0, 0] S1x64x2048.size (slot_inb s)

/-- Slot `s` of the communication buffer. -/
abbrev slot (s : Fin 32) : Memref sig .tc .vmem S64x2048 .f32 :=
  (cM.slice (slotR s) (fun _ => rfl)).squeeze S64x2048 squeezes_S1x64x2048_S64x2048

/-- Semaphore `h` of an array of seventeen, and of an array of sixteen. -/
abbrev at17 (A : DmaSems sig S17) (h : Fin 17) : DmaSem sig :=
  ((A.slice (Rect.unit (s := S17) ![h.val] S1.size (sem17_inb h))).squeeze S_ squeezes_S1_S_).sem
abbrev at16 (A : DmaSems sig S16) (h : Fin 16) : DmaSem sig :=
  ((A.slice (Rect.unit (s := S16) ![h.val] S1.size (sem16_inb h))).squeeze S_ squeezes_S1_S_).sem

/-- The semaphores a transfer rightwards pays at its source and at its target, and those of a transfer leftwards. -/
abbrev sendR (h : Fin 17) : DmaSem sig := at17 cc0_scratch1 h
abbrev sendL (h : Fin 16) : DmaSem sig := at16 cc0_scratch2 h
abbrev recvR (h : Fin 17) : DmaSem sig := at17 cc0_scratch3 h
abbrev recvL (h : Fin 16) : DmaSem sig := at16 cc0_scratch4 h

/-- The barrier semaphore. -/
abbrev barS : Sem sig := (SemArray.scalar (sig.barrier 0 rfl) : Sems sig S_).sem

/-! ## The pieces -/

abbrev Eff (F : FTy → Type) : Type → Type := TpuEff nD τ sig (Elt F) Λ₀ .tc

/-- Copy slot `a` of this device into slot `b` of device `n`, paying `ss` here and `rs` there. -/
def send (n : Dev nD) (a b : Fin 32) (ss rs : DmaSem sig) : Prog (Eff F) PUnit :=
  Prog.lift (.enqueueDma (slot a) (.remote (Dev.tc n) (slot b) (.dma ss)) (.dma rs)
    ((View.wordExact_bits rfl).reshape _ _) ((View.wordExact_bits rfl).reshape _ _) ⟨⟨rfl, Or.inl rfl⟩, trivial⟩)

/-- Wait on `q` for the credit of one slot. -/
def await (q : DmaSem sig) (a b : Fin 32) : Prog (Eff F) PUnit :=
  Prog.lift (.waitDma2 q (slot a) (slot b) ((View.wordExact_bits rfl).reshape _ _) ((View.wordExact_bits rfl).reshape _ _))

/-- Multiply slot `s` with the device's columns of `w` and store the product in the result's rows at `off`. -/
def gemm (s : Fin 32) (off : Fin 2 → ℕ) (hoff : ∀ a, off a + S64x64.size a ≤ S2048x64.size a) : Prog (Eff F) PUnit := do
  let v : Vec F S1x64x2048 .f32 ← Prog.lift (.load cM (slotR s).toLoadRect (View.loadsAt_vmem h_S1x64x2048))
  let w : Vec F S2048x64 .f32 ← Prog.lift (.load wM (Rect.unit (s := S2048x64) ![0, 0] S2048x64.size inb_S2048x64_S2048x64_0_0).toLoadRect (View.loadsAt_vmem h_S2048x64))
  let _o : Vec F S64x64 .f32 ← Prog.lift (.load oM (Rect.unit (s := S2048x64) off S64x64.size hoff).toLoadRect (View.loadsAt_vmem h_S64x64))
  Prog.lift (.store oM (Rect.unit (s := S2048x64) off S64x64.size hoff) (k0_pay2 v w) Finset.univ (View.stores_vmem_bits_univ h_S64x64 rfl) (.inl rfl))

/-- The neighbours as the body computes them. -/
abbrev rgt (c : Dev nD) : Dev nD := ⟨k0_dev3 c, k0_dev3_lt c⟩
abbrev lft (c : Dev nD) : Dev nD := ⟨k0_dev4 c, k0_dev4_lt c⟩

/-- Run `p 0`, …, `p (n - 1)`. -/
def seqN : (n : ℕ) → (Fin n → Prog (Eff F) PUnit) → Prog (Eff F) PUnit
  | 0, _ => pure ⟨⟩
  | n + 1, p => do p 0; seqN n fun i => p i.succ

/-- The product of the slot that came from the left on hop `r + 1`, and of the one that came from the right. -/
def gemmR (c : Dev nD) (r : Fin 16) : Prog (Eff F) PUnit :=
  gemm ⟨1 + r.val, by omega⟩ (k0_off2 c (BitVec.ofNat 32 (1 + r.val))) (k0_off2_inb c r)
def gemmL (c : Dev nD) (r : Fin 15) : Prog (Eff F) PUnit :=
  gemm ⟨17 + r.val, by omega⟩ (k0_off3 c (BitVec.ofNat 32 (1 + r.val))) (k0_off3_inb c r)

/-- The wait for hop `r + 1`'s slot from the left, and from the right. -/
def recvOnR (r : Fin 16) : Prog (Eff F) PUnit := await (recvR ⟨1 + r.val, by omega⟩) ⟨1 + r.val, by omega⟩ ⟨1 + r.val, by omega⟩
def recvOnL (r : Fin 15) : Prog (Eff F) PUnit := await (recvL ⟨1 + r.val, by omega⟩) ⟨17 + r.val, by omega⟩ ⟨17 + r.val, by omega⟩

/-- Hop `r + 1`'s slot passed on to the right, and to the left. -/
def passR (c : Dev nD) (r : Fin 15) : Prog (Eff F) PUnit :=
  send (rgt c) ⟨1 + r.val, by omega⟩ ⟨2 + r.val, by omega⟩ (sendR ⟨2 + r.val, by omega⟩) (recvR ⟨2 + r.val, by omega⟩)
def passL (c : Dev nD) (r : Fin 14) : Prog (Eff F) PUnit :=
  send (lft c) ⟨17 + r.val, by omega⟩ ⟨18 + r.val, by omega⟩ (sendL ⟨2 + r.val, by omega⟩) (recvL ⟨2 + r.val, by omega⟩)

/-- One hop on which both directions travel. -/
def hop (c : Dev nD) (r : Fin 14) : Prog (Eff F) PUnit := do
  recvOnR ⟨r.val, by omega⟩
  passR c ⟨r.val, by omega⟩
  recvOnL ⟨r.val, by omega⟩
  passL c r
  gemmR c ⟨r.val, by omega⟩
  gemmL c ⟨r.val, by omega⟩

/-- The last two hops. -/
def hop15 (c : Dev nD) : Prog (Eff F) PUnit := do
  recvOnR 14
  passR c 14
  recvOnL 14
  gemmR c 14
  gemmL c 14
def hop16 (c : Dev nD) : Prog (Eff F) PUnit := do
  recvOnR 15
  gemmR c 15

/-- The slot a leftward transfer reads: slot 0 on the first hop, slot `16 + r` on hop `r + 1`. -/
abbrev srcL (r : Fin 15) : Fin 32 := if r.val = 0 then 0 else ⟨16 + r.val, by omega⟩

/-- The wait for the transfer rightwards of hop `r + 1` to have read its slot, and leftwards. -/
def drainR (r : Fin 16) : Prog (Eff F) PUnit := await (sendR ⟨1 + r.val, by omega⟩) ⟨1 + r.val, by omega⟩ ⟨r.val, by omega⟩
def drainL (r : Fin 15) : Prog (Eff F) PUnit := await (sendL ⟨1 + r.val, by omega⟩) ⟨17 + r.val, by omega⟩ (srcL r)

/-- The handshake with both neighbours. -/
def handshake (c : Dev nD) : Prog (Eff F) PUnit := do
  semSignalWord (⟨k0_dev1 c, k0_dev1_lt c⟩ : Dev nD) barS 1#32
  semSignalWord (⟨k0_dev2 c, k0_dev2_lt c⟩ : Dev nD) barS 1#32
  semWaitWord barS 2#32

/-- The device's rows of `x` put in slot 0. -/
def fill : Prog (Eff F) PUnit := do
  let v : Vec F S64x2048 .f32 ← Prog.lift (.load xM (Rect.unit (s := S64x2048) ![0, 0] S64x2048.size inb_S64x2048_S64x2048_0_0).toLoadRect (View.loadsAt_vmem h_S64x2048))
  let _o : Vec F S1x64x2048 .f32 ← Prog.lift (.load cM (slotR 0).toLoadRect (View.loadsAt_vmem h_S1x64x2048))
  Prog.lift (.store cM (slotR 0) (k0_pay1 v) Finset.univ (View.stores_vmem_bits_univ h_S1x64x2048 rfl) (.inl rfl))

/-- The two first transfers, of slot 0 both ways. -/
def launchR (c : Dev nD) : Prog (Eff F) PUnit := send (rgt c) 0 1 (sendR 1) (recvR 1)
def launchL (c : Dev nD) : Prog (Eff F) PUnit := send (lft c) 0 17 (sendL 1) (recvL 1)

/-- The body. -/
def prog : Prog (Eff F) PUnit := do
  let c : Dev nD ← Prog.lift .deviceId
  handshake c
  fill
  launchR c
  launchL c
  gemm 0 (k0_off1 c) (k0_off1_inb c)
  seqN 14 (hop c)
  hop15 c
  hop16 c
  seqN 16 drainR
  seqN 15 drainL

set_option maxRecDepth 100000 in
/-- The printed body is `prog`. -/
theorem body_eq : cc0_body (F := F) xM (Memref.isWhole_whole _) wM (Memref.isWhole_whole _) oM (Memref.isWhole_whole _)
    cM (Memref.isWhole_whole _) cc0_scratch1 cc0_scratch2 cc0_scratch3 cc0_scratch4 = prog := by
  chain_rfl

end Cert.Ring

end
-- ==== Proof.Slots.lean ====
/-
The ring of thirty-two devices, the thirty-one transfers a device takes part in as a sender and as a receiver, and the
communication buffer's slots as sets of elements.

Transfer `j` lands in slot `j + 1`. The first sixteen travel rightwards: transfer `j < 16` carries slot `j` of a device into
slot `j + 1` of the device after it. The other fifteen travel leftwards: transfer `16` carries slot `0`, and transfer
`j > 16` slot `j`, into slot `j + 1` of the device before it. Slot `s` of device `c` therefore holds the rows of the device
`origin c s`.
-/
module

public import proofs.«01_k».proof.Proof.Program
public import Idealize.ShloMosaic.Lib.Pipeline.Launch
public import Idealize.ShloMosaic.Lib.Pipeline.Kit
public import Idealize.ShloMosaic.Lib.Tactic
public import Idealize.ShloMosaic.Lib.Pipeline.Value
public import Idealize.ShloMosaic.Lib.ValueLayout

@[expose] public section

noncomputable section

namespace Cert.Ring

open Cert.KernelIdeal Cert.KernelIdeal.Gen
open Idealize.ShloMosaic Idealize.ShloMosaic.TcCoe Idealize.SL.Sem
open Idealize.ShloMosaic.ValueIdx

variable {F : FTy → Type} [FloatOps F]

/-! ## The ring -/

/-- The device after `c`, and the device before it. -/
def nxt (c : Dev nD) : Dev nD := ⟨(c.val + 1) % 32, Nat.mod_lt _ (by decide)⟩
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The devices the body's arithmetic names. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem rgt_eq (c : Dev nD) : rgt c = nxt c := Fin.ext (k0_dev3_eq c)
theorem lft_eq (c : Dev nD) : lft c = prv c := Fin.ext (k0_dev4_eq c)

/-! ## The transfers -/

/-- The slot transfer `j` reads and the slot it lands in. -/
def src (j : Fin 31) : Fin 32 := if j.val = 16 then 0 else j.castSucc
def dst (j : Fin 31) : Fin 32 := j.succ

/-- The device transfer `j` of device `c` goes to, and the one whose transfer `j` comes to `c`. -/
def tgt (c : Dev nD) (j : Fin 31) : Dev nD := if j.val < 16 then nxt c else prv c
def frm (c : Dev nD) (j : Fin 31) : Dev nD := if j.val < 16 then prv c else nxt c

theorem frm_tgt (c : Dev nD) (j : Fin 31) : frm (tgt c j) j = c := by
  unfold frm tgt; split
  · exact prv_nxt c
  · exact nxt_prv c
theorem tgt_frm (c : Dev nD) (j : Fin 31) : tgt (frm c j) j = c := by
  unfold frm tgt; split
  · exact nxt_prv c
  · exact prv_nxt c

def around (j : Fin 31) : Dev nD ≃ Dev nD := ⟨fun c => tgt c j, fun c => frm c j, fun c => frm_tgt c j, fun c => tgt_frm c j⟩

/-- The device whose rows slot `s` of device `c` holds. -/
def origin (c : Dev nD) (s : Fin 32) : Dev nD :=
  ⟨(if s.val ≤ 16 then c.val + 32 - s.val else c.val + (s.val - 16)) % 32, Nat.mod_lt _ (by decide)⟩

theorem origin_zero (c : Dev nD) : origin c 0 = c := by revert c; decide

/-- A transfer carries the rows of one device from slot to slot. -/
theorem origin_tgt (c : Dev nD) (j : Fin 31) : origin (tgt c j) (dst j) = origin c (src j) := by
  have hc : c.val < 32 := c.isLt
  have hj := j.isLt
  have ht : (tgt c j).val = if j.val < 16 then (c.val + 1) % 32 else (c.val + 31) % 32 := by unfold tgt; split <;> rfl
  have hs : (src j).val = if j.val = 16 then 0 else j.val := by unfold src; split <;> rfl
  have hd : (dst j).val = j.val + 1 := rfl
  apply Fin.ext
  unfold origin
  dsimp only
  rw [ht, hs, hd]
  split_ifs <;> omega

/-- Every device's rows come to every device. -/
theorem origin_surj (c d : Dev nD) : ∃ s, origin c s = d := by
  have hc : c.val < 32 := c.isLt
  have hd : d.val < 32 := d.isLt
  by_cases h : (c.val + 32 - d.val) % 32 ≤ 16
  · refine ⟨⟨(c.val + 32 - d.val) % 32, Nat.mod_lt _ (by decide)⟩, Fin.ext ?_⟩
    unfold origin; dsimp only; rw [if_pos h]; omega
  · refine ⟨⟨16 + (d.val + 32 - c.val) % 32, by omega⟩, Fin.ext ?_⟩
    unfold origin; dsimp only; rw [if_neg (by omega)]; omega

/-- The semaphores transfer `j` pays at its source and at its target. -/
def sS (j : Fin 31) : DmaSem sig := if h : j.val < 16 then sendR ⟨1 + j.val, by omega⟩ else sendL ⟨j.val - 15, by omega⟩
def sR (j : Fin 31) : DmaSem sig := if h : j.val < 16 then recvR ⟨1 + j.val, by omega⟩ else recvL ⟨j.val - 15, by omega⟩

/-! ## The pieces by transfer -/

/-- Transfer `j` of device `c`; the wait for transfer `j` to have landed; the wait for it to have read its slot. -/
def xfer (c : Dev nD) (j : Fin 31) : Prog (Eff F) PUnit := send (tgt c j) (src j) (dst j) (sS j) (sR j)
def arrive (j : Fin 31) : Prog (Eff F) PUnit := await (sR j) (dst j) (dst j)
def drain (j : Fin 31) : Prog (Eff F) PUnit := await (sS j) (dst j) (src j)

theorem rowOff_inb (d : Dev nD) : ∀ a, (![64 * d.val, 0] : Fin 2 → ℕ) a + S64x64.size a ≤ S2048x64.size a := by
  revert d; decide

/-- The product of slot `s`, stored in the rows of the device it came from. -/
def mult (c : Dev nD) (s : Fin 32) : Prog (Eff F) PUnit := gemm s ![64 * (origin c s).val, 0] (rowOff_inb _)

theorem gemm_congr (s : Fin 32) {off off' : Fin 2 → ℕ} (h : off = off') (p : ∀ a, off a + S64x64.size a ≤ S2048x64.size a)
    (p' : ∀ a, off' a + S64x64.size a ≤ S2048x64.size a) : (gemm s off p : Prog (Eff F) PUnit) = gemm s off' p' := by
  subst h; rfl

theorem launchR_eq (c : Dev nD) : (launchR c : Prog (Eff F) PUnit) = xfer c 0 := by
  unfold launchR xfer; rw [rgt_eq]; rfl
theorem launchL_eq (c : Dev nD) : (launchL c : Prog (Eff F) PUnit) = xfer c 16 := by
  unfold launchL xfer; rw [lft_eq]; rfl

theorem passR_eq (c : Dev nD) (r : Fin 15) : (passR c r : Prog (Eff F) PUnit) = xfer c ⟨1 + r.val, by omega⟩ := by
  have h : 1 + r.val < 16 := by omega
  unfold passR xfer tgt src dst sS sR
  rw [rgt_eq, if_pos h, dif_pos h, dif_pos h, if_neg (by dsimp only; omega)]
  have e : (⟨2 + r.val, by omega⟩ : Fin 17) = ⟨1 + (1 + r.val), by omega⟩ := Fin.ext (by dsimp only; omega)
  rw [e]
  congr 1
  exact Fin.ext (by simp; omega)

theorem passL_eq (c : Dev nD) (r : Fin 14) : (passL c r : Prog (Eff F) PUnit) = xfer c ⟨17 + r.val, by omega⟩ := by
  have h : ¬ 17 + r.val < 16 := by omega
  unfold passL xfer tgt src dst sS sR
  rw [lft_eq, if_neg h, dif_neg h, dif_neg h, if_neg (by dsimp only; omega)]
  have e : (⟨2 + r.val, by omega⟩ : Fin 16) = ⟨17 + r.val - 15, by omega⟩ := Fin.ext (by dsimp only; omega)
  rw [e]
  congr 1
  exact Fin.ext (by simp; omega)

theorem recvOnR_eq (r : Fin 16) : (recvOnR r : Prog (Eff F) PUnit) = arrive ⟨r.val, by omega⟩ := by
  unfold recvOnR arrive dst sR
  rw [dif_pos r.isLt]
  congr 1 <;> exact Fin.ext (by simp; omega)

theorem recvOnL_eq (r : Fin 15) : (recvOnL r : Prog (Eff F) PUnit) = arrive ⟨16 + r.val, by omega⟩ := by
  have h : ¬ 16 + r.val < 16 := by omega
  unfold recvOnL arrive dst sR
  rw [dif_neg h]
  have e : (⟨1 + r.val, by omega⟩ : Fin 16) = ⟨16 + r.val - 15, by omega⟩ := Fin.ext (by dsimp only; omega)
  rw [e]
  congr 1 <;> exact Fin.ext (by simp; omega)

theorem drainR_eq (r : Fin 16) : (drainR r : Prog (Eff F) PUnit) = drain ⟨r.val, by omega⟩ := by
  unfold drainR drain dst sS src
  rw [dif_pos r.isLt, if_neg (by dsimp only; omega)]
  congr 1
  exact Fin.ext (by simp; omega)

theorem drainL_eq (r : Fin 15) : (drainL r : Prog (Eff F) PUnit) = drain ⟨16 + r.val, by omega⟩ := by
  have h : ¬ 16 + r.val < 16 := by omega
  unfold drainL drain dst sS src srcL
  rw [dif_neg h]
  have e : (⟨1 + r.val, by omega⟩ : Fin 16) = ⟨16 + r.val - 15, by omega⟩ := Fin.ext (by dsimp only; omega)
  rw [e]
  congr 1
  · exact Fin.ext (by simp; omega)
  · by_cases h0 : r.val = 0
    · rw [if_pos h0, if_pos (by dsimp only; omega)]
    · rw [if_neg h0, if_neg (by dsimp only; omega)]; rfl

theorem mult_zero (c : Dev nD) : (gemm 0 (k0_off1 c) (k0_off1_inb c) : Prog (Eff F) PUnit) = mult c 0 :=
  gemm_congr 0 (by rw [k0_off1_eq, origin_zero]) _ _

theorem gemmR_eq (c : Dev nD) (r : Fin 16) : (gemmR c r : Prog (Eff F) PUnit) = mult c (dst ⟨r.val, by omega⟩) := by
  have hs : (⟨1 + r.val, by omega⟩ : Fin 32) = dst ⟨r.val, by omega⟩ := Fin.ext (by unfold dst; simp; omega)
  unfold gemmR mult
  rw [hs]
  refine gemm_congr _ ?_ _ _
  have hc : c.val < 32 := c.isLt
  rw [k0_off2_eq]
  congr 2
  unfold origin dst
  simp only [Fin.val_succ]
  rw [if_pos (by omega)]
  omega

theorem gemmL_eq (c : Dev nD) (r : Fin 15) : (gemmL c r : Prog (Eff F) PUnit) = mult c (dst ⟨16 + r.val, by omega⟩) := by
  have hs : (⟨17 + r.val, by omega⟩ : Fin 32) = dst ⟨16 + r.val, by omega⟩ := Fin.ext (by unfold dst; simp; omega)
  unfold gemmL mult
  rw [hs]
  refine gemm_congr _ ?_ _ _
  have hc : c.val < 32 := c.isLt
  rw [k0_off3_eq]
  congr 2
  unfold origin dst
  simp only [Fin.val_succ]
  rw [if_neg (by omega)]
  omega

/-! ## The slots as sets of elements -/

/-- The elements of slot `s`. -/
def slotSet (s : Fin 32) : Finset S32x64x2048.Idx := Finset.univ.filter fun i => (i 0).val = s.val

theorem mem_slotSet {s : Fin 32} {i : S32x64x2048.Idx} : i ∈ slotSet s ↔ (i 0).val = s.val := by simp [slotSet]

theorem slotR_set (s : Fin 32) : (slotR s).set = slotSet s := by
  ext i
  rw [mem_slotSet, LoadRect.mem_set]
  have h1 : (i 1).val < 64 := (i 1).isLt
  have h2 : (i 2).val < 2048 := (i 2).isLt
  constructor
  · intro h
    obtain ⟨j, hj, e⟩ := h 0
    have hj' : j < 1 := hj
    have e' : (i 0).val = s.val + 1 * j := e
    omega
  · intro h a
    fin_cases a
    · exact ⟨0, Nat.one_pos, h⟩
    · exact ⟨(i 1).val, h1, by show (i 1).val = 0 + 1 * (i 1).val; omega⟩
    · exact ⟨(i 2).val, h2, by show (i 2).val = 0 + 1 * (i 2).val; omega⟩

theorem slot_set (s : Fin 32) : (slot s).view.set = slotSet s := by
  rw [← slotR_set]
  exact (View.set_reshape _ _).trans (View.set_slice_whole _ _)

theorem access_set (s : Fin 32) : (cM.access (slotR s)).set = slotSet s := by
  rw [← slotR_set]; exact View.set_slice_whole _ _

theorem load_set (s : Fin 32) : cM.view.setOn (slotR s).toLoadRect.set = slotSet s := by
  have h := access_set s
  rwa [View.set_slice] at h

theorem slotSet_disjoint {s s' : Fin 32} (h : s ≠ s') : Disjoint (slotSet s) (slotSet s') :=
  Finset.disjoint_left.mpr fun i hi hi' => h (Fin.ext ((mem_slotSet.mp hi).symm.trans (mem_slotSet.mp hi')))

theorem biUnion_slotSet : (Finset.univ : Finset (Fin 32)).biUnion slotSet = Finset.univ := by
  ext i
  simp only [Finset.mem_biUnion, Finset.mem_univ, true_and, iff_true]
  exact ⟨i 0, mem_slotSet.mpr rfl⟩

/-- Where the element at row `y 0`, column `y 1` of slot `s` sits in the communication buffer. -/
theorem slot_emb (s : Fin 32) (y : S64x2048.Idx) : (slot s).view.emb y = (ix3 s (y 0) (y 1) : S32x64x2048.Idx) := by
  show (slotR s).emb (Shape.reshapeEquiv _ y) = _
  rw [Shape.reshapeEquiv_cons_one]
  funext a
  apply Fin.ext
  rw [Rect.emb_apply]
  fin_cases a
  · rfl
  · show 0 + 1 * (y 0).val = (y 0).val; omega
  · show 0 + 1 * (y 1).val = (y 1).val; omega

/-- The same element of the slot as a vector with a leading axis of one. -/
theorem slotR_emb (s : Fin 32) (y : S1x64x2048.Idx) : (slotR s).emb y = (ix3 s (y 1) (y 2) : S32x64x2048.Idx) := by
  have h0 : (y 0).val < 1 := (y 0).isLt
  funext a
  apply Fin.ext
  rw [Rect.emb_apply]
  fin_cases a
  · show s.val + 1 * (y 0).val = s.val; omega
  · show 0 + 1 * (y 1).val = (y 1).val; omega
  · show 0 + 1 * (y 2).val = (y 2).val; omega

/-! ## Contents -/

/-- The communication buffer of device `c` when every slot holds the rows of the device it stands for, `X d` being the
    rows of device `d`. -/
def commOf (X : Dev nD → S64x2048.Idx → Elt F .f32) (c : Dev nD) : S32x64x2048.Idx → Elt F .f32 :=
  fun i => X (origin c (i 0)) (ix2 (i 1) (i 2))

/-- Rows as a vector with a leading axis of one. -/
def lead (x : S64x2048.Idx → Elt F .f32) : S1x64x2048.Idx → Elt F .f32 := fun i => x (ix2 (i 1) (i 2))

omit [FloatOps F] in
/-- A transfer reads the rows off its slot. -/
theorem read_slot (X : Dev nD → S64x2048.Idx → Elt F .f32) (c : Dev nD) (s : Fin 32) :
    (slot s).view.read (Elt F) (commOf X c) = X (origin c s) := by
  funext y
  rw [View.read_apply]
  show commOf X c ((slot s).view.emb y) = _
  rw [slot_emb]
  show X (origin c s) (ix2 (y 0) (y 1)) = _
  exact congrArg _ (eq_ix2 (n0 := 64) (n1 := 2048) y).symm

omit [FloatOps F] in
/-- A load of the slot reads them with a leading axis. -/
theorem load_slot (X : Dev nD → S64x2048.Idx → Elt F .f32) (c : Dev nD) (s : Fin 32) :
    cM.view.readAt (Elt F) (slotR s).toLoadRect (commOf X c) = lead (X (origin c s)) := by
  funext y
  rw [View.readAt_rect, View.read_apply]
  show commOf X c ((slotR s).emb y) = _
  rw [slotR_emb]
  rfl

omit [FloatOps F] in
/-- Rows written through the slot, at an element of the slot. -/
theorem write_slot (X : Dev nD → S64x2048.Idx → Elt F .f32) (c : Dev nD) (s : Fin 32) (f : S32x64x2048.Idx → Elt F .f32)
    (x : S64x2048.Idx → Elt F .f32) (h : x = X (origin c s)) :
    ∀ i ∈ slotSet s, (slot s).view.write (Elt F) f x Finset.univ i = commOf X c i := by
  intro i hi
  have h0 : i 0 = s := Fin.ext (mem_slotSet.mp hi)
  have e : i = (slot s).view.emb (ix2 (i 1) (i 2)) := by
    rw [slot_emb, ← h0]; exact eq_ix3 (n0 := 32) (n1 := 64) (n2 := 2048) i
  conv_lhs => rw [e]
  rw [View.write_emb_of_mem _ _ (Finset.mem_univ _), h]
  show X (origin c s) (ix2 (i 1) (i 2)) = X (origin c (i 0)) (ix2 (i 1) (i 2))
  rw [h0]

/-- The store that fills slot 0, at an element of slot 0. -/
theorem write_fill (X : Dev nD → S64x2048.Idx → Elt F .f32) (c : Dev nD) (f : S32x64x2048.Idx → Elt F .f32) :
    ∀ i ∈ slotSet 0, (cM.access (slotR 0)).write (Elt F) f (k0_pay1 (F := F) (X c)) Finset.univ i = commOf X c i := by
  intro i hi
  have h0 : i 0 = (0 : Fin 32) := Fin.ext (mem_slotSet.mp hi)
  have e : i = (cM.access (slotR 0)).emb (ix3 (0 : Fin 1) (i 1) (i 2)) := by
    show i = (slotR 0).emb _
    rw [slotR_emb, ← h0]; exact eq_ix3 (n0 := 32) (n1 := 64) (n2 := 2048) i
  conv_lhs => rw [e]
  rw [View.write_emb_of_mem _ _ (Finset.mem_univ _)]
  show k0_pay1 (F := F) (X c) (ix3 (0 : Fin 1) (i 1) (i 2)) = X (origin c (i 0)) (ix2 (i 1) (i 2))
  rw [h0, origin_zero]
  unfold k0_pay1
  exact (shapeCast_ab_1ab_apply (a := 64) (b := 2048) _ _ 0 (i 1) (i 2)).trans (congrFun (shapeCast_self _ _) _)

/-! ## The output -/

/-- The whole output of a device whose second operand is `w`: in each band of rows, the product of the rows of the device
    the band is numbered by. -/
def outOf (X : Dev nD → S64x2048.Idx → Elt F .f32) (w : S2048x64.Idx → Elt F .f32) : S2048x64.Idx → Elt F .f32 :=
  fun i => k0_pay2 (F := F) (lead (X ⟨(i 0).val / 64, by have h : (i 0).val < 2048 := (i 0).isLt; show _ < 32; omega⟩)) w
    (ix2 (⟨(i 0).val % 64, Nat.mod_lt _ (by decide)⟩ : Fin 64) (i 1))

/-- `g` has the bands of the devices whose rows the slots `D` of device `c` hold. -/
def Good (X : Dev nD → S64x2048.Idx → Elt F .f32) (w : S2048x64.Idx → Elt F .f32) (c : Dev nD) (D : Finset (Fin 32))
    (g : S2048x64.Idx → Elt F .f32) : Prop :=
  ∀ s ∈ D, ∀ i : S2048x64.Idx, (i 0).val / 64 = (origin c s).val → g i = outOf X w i

theorem Good.empty (X : Dev nD → S64x2048.Idx → Elt F .f32) (w : S2048x64.Idx → Elt F .f32) (c : Dev nD)
    (g : S2048x64.Idx → Elt F .f32) : Good X w c ∅ g := fun _ h => absurd h (Finset.notMem_empty _)

/-- All slots' bands are the whole output. -/
theorem Good.all {X : Dev nD → S64x2048.Idx → Elt F .f32} {w : S2048x64.Idx → Elt F .f32} {c : Dev nD}
    {g : S2048x64.Idx → Elt F .f32} (h : Good X w c Finset.univ g) : g = outOf X w := by
  funext i
  have hi : (i 0).val < 2048 := (i 0).isLt
  obtain ⟨s, hs⟩ := origin_surj c ⟨(i 0).val / 64, show _ < 32 by omega⟩
  exact h s (Finset.mem_univ _) i (by rw [hs])

/-- Where the element `y` of the band of device `d` sits in the output. -/
theorem band_emb (d : Dev nD) (y : S64x64.Idx) :
    (Rect.unit (s := S2048x64) ![64 * d.val, 0] S64x64.size (rowOff_inb d)).emb y
      = (ix2 (⟨64 * d.val + (y 0).val, by have h : (y 0).val < 64 := (y 0).isLt; have h' : d.val < 32 := d.isLt; omega⟩ : Fin 2048) (y 1) : S2048x64.Idx) := by
  funext a
  apply Fin.ext
  rw [Rect.emb_apply]
  fin_cases a
  · show 64 * d.val + 1 * (y 0).val = 64 * d.val + (y 0).val; omega
  · show 0 + 1 * (y 1).val = (y 1).val; omega

/-- The store of slot `s`'s product adds its band and keeps the others. -/
theorem Good.store {X : Dev nD → S64x2048.Idx → Elt F .f32} {w : S2048x64.Idx → Elt F .f32} {c : Dev nD}
    {D : Finset (Fin 32)} {g : S2048x64.Idx → Elt F .f32} (h : Good X w c D g) (s : Fin 32) :
    Good X w c (insert s D) ((oM.access (Rect.unit (s := S2048x64) ![64 * (origin c s).val, 0] S64x64.size (rowOff_inb _))).write
      (Elt F) g (k0_pay2 (F := F) (lead (X (origin c s))) w) Finset.univ) := by
  intro s' hs' i hi
  have hlt : (i 0).val < 2048 := (i 0).isLt
  by_cases hd : (i 0).val / 64 = (origin c s).val
  · have e : i = (oM.access (Rect.unit (s := S2048x64) ![64 * (origin c s).val, 0] S64x64.size (rowOff_inb _))).emb
        (ix2 (⟨(i 0).val % 64, Nat.mod_lt _ (by decide)⟩ : Fin 64) (i 1)) := by
      refine Eq.trans ?_ (band_emb _ _).symm
      funext a
      apply Fin.ext
      fin_cases a
      · show (i 0).val = 64 * (origin c s).val + (i 0).val % 64; omega
      · rfl
    conv_lhs => rw [e]
    rw [View.write_emb_of_mem _ _ (Finset.mem_univ _)]
    have ho : origin c s = ⟨(i 0).val / 64, show _ < 32 by omega⟩ := Fin.ext hd.symm
    show k0_pay2 (F := F) (lead (X (origin c s))) w (ix2 _ _) = k0_pay2 (F := F) (lead (X _)) w (ix2 _ _)
    rw [ho]
  · have hne : s' ≠ s := fun e => hd (e ▸ hi)
    rw [View.write_of_not_mem]
    · exact h s' ((Finset.mem_insert.mp hs').resolve_left hne) i hi
    · intro hm
      obtain ⟨y, -, e⟩ := Finset.mem_map.mp hm
      have e' : (Rect.unit (s := S2048x64) ![64 * (origin c s).val, 0] S64x64.size (rowOff_inb _)).emb y = i := e
      rw [band_emb] at e'
      have hy : (y 0).val < 64 := (y 0).isLt
      have e0 : 64 * (origin c s).val + (y 0).val = (i 0).val := congrArg (fun z : S2048x64.Idx => (z 0).val) e'
      omega

end Cert.Ring

end
-- ==== Proof.Protocol.lean ====
/-
The semaphores of the ring as cells, and what is agreed about each of them.

A device has one barrier cell and, for each of its thirty-one transfers, a send cell and a receive cell. Every cell has one
round. The barrier cell is paid one unit by each neighbour, and a neighbour's unit hands over the slots of its communication
buffer this device is going to write. The receive cell of transfer `j` is paid by the transfer that lands here, and hands
over its slot, filled. The send cell is paid by the transfer that leaves, and gives back the share of the slot it read.
-/
module

public import proofs.«01_k».proof.Proof.Slots
public import proofs.«01_k».proof.Proof.Gen.KernelIdeal.Launch

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The pipeline's rounds and the ring's, whose duties are told apart by a Boolean. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier cell, the send cells, the receive cells. -/
abbrev Kd : Type := Unit ⊕ Fin 31 ⊕ Fin 31

/-- The semaphore of a cell. -/
def csem : Kd → SemLoc sig
  | .inl _ => .reg barS
  | .inr (.inl j) => .dma (sS j)
  | .inr (.inr j) => .dma (sR j)

abbrev kcell (ck : Dev nD × Kd) : GSem nD τ sig := ((ck.1 : Thread nD τ), csem ck.2)
abbrev barCell (c : Dev nD) : GSem nD τ sig := ((c : Thread nD τ), .reg barS)
abbrev sendCell (c : Dev nD) (j : Fin 31) : GSem nD τ sig := ((c : Thread nD τ), .dma (sS j))
abbrev recvCell (c : Dev nD) (j : Fin 31) : GSem nD τ sig := ((c : Thread nD τ), .dma (sR j))

/-- The number of a semaphore within its pool, the barrier's set apart. -/
def semNo : SemLoc sig → ℕ
  | .reg _ => 1000
  | .dma q => q.val

theorem semNo_sS (j : Fin 31) : semNo (.dma (sS j)) = if j.val < 16 then 4 + j.val else 5 + j.val := by
  revert j; decide
theorem semNo_sR (j : Fin 31) : semNo (.dma (sR j)) = if j.val < 16 then 37 + j.val else 38 + j.val := by
  revert j; decide

theorem csem_injective : Function.Injective csem := by
  rintro (_ | j | j) (_ | j' | j') h
  all_goals
    have hj := congrArg semNo h
    simp only [csem, semNo_sS, semNo_sR] at hj
    try simp only [semNo] at hj
  · rfl
  · have := j'.isLt; split_ifs at hj <;> omega
  · have := j'.isLt; split_ifs at hj <;> omega
  · have := j.isLt; split_ifs at hj <;> omega
  · congr 2; apply Fin.ext; split_ifs at hj <;> omega
  · have := j.isLt; have := j'.isLt; split_ifs at hj <;> omega
  · have := j.isLt; split_ifs at hj <;> omega
  · have := j.isLt; have := j'.isLt; split_ifs at hj <;> omega
  · congr 2; apply Fin.ext; split_ifs at hj <;> omega

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which cell a semaphore is, if any. -/
def kindOf : SemLoc sig → Option Kd := Function.partialInv csem

theorem kindOf_csem (k : Kd) : kindOf (csem k) = some k := Function.partialInv_left csem_injective k
theorem kindOf_bar : kindOf (.reg barS) = some (.inl ()) := kindOf_csem (.inl ())
theorem kindOf_send (j : Fin 31) : kindOf (.dma (sS j)) = some (.inr (.inl j)) := kindOf_csem (.inr (.inl j))
theorem kindOf_recv (j : Fin 31) : kindOf (.dma (sR j)) = some (.inr (.inr j)) := kindOf_csem (.inr (.inr j))

/-! ## Slots held -/

/-- Slot `s` of device `c` held at share `q`, with contents `f`. -/
def slotPts (c : Dev nD) (s : Fin 32) (q : PosShare TreeShare) (f : S32x64x2048.Idx → Elt F .f32) : sProp 𝕄 :=
  ((c : Thread nD τ).loc cc0_scratch0) ↦[slotSet s]{q} f

omit [FloatOps F] in
instance slotPts_storable (c : Dev nD) (s : Fin 32) (q : PosShare TreeShare) (f : S32x64x2048.Idx → Elt F .f32) :
    BI.Storable (upEmb : UEmb _ 𝕄) (slotPts (F := F) c s q f) := by unfold slotPts; infer_instance

omit [FloatOps F] in
/-- The slot as the memref's own elements. -/
theorem slotPts_view (c : Dev nD) (s : Fin 32) (q : PosShare TreeShare) (f : S32x64x2048.Idx → Elt F .f32) :
    slotPts c s q f = ((slot s).view.loc (c : Thread nD τ) ↦[(slot s).view.set]{q} f : sProp 𝕄) := by
  unfold slotPts; rw [slot_set]

omit [FloatOps F] in
theorem slotPts_congr (c : Dev nD) (s : Fin 32) (q : PosShare TreeShare) {f g : S32x64x2048.Idx → Elt F .f32}
    (h : ∀ i ∈ slotSet s, f i = g i) : (slotPts c s q f : sProp 𝕄) = slotPts c s q g := pointsTo_congr h

omit [FloatOps F] in
/-- A slot held at a share is held at its two halves. -/
theorem slotPts_halves (c : Dev nD) (s : Fin 32) (q : PosShare TreeShare) (f : S32x64x2048.Idx → Elt F .f32) :
    (slotPts c s q f : sProp 𝕄) ⊣⊢ iprop(slotPts c s q.left f ∗ slotPts c s q.right f) :=
  pointsTo_share (PosShare.mem_left_op_right q)

/-- The share of its source slot transfer `j` borrows: both transfers that start at slot 0 read it at once. -/
def shr (j : Fin 31) : PosShare TreeShare := if j.val = 16 then fullShare.right.left else fullShare.left

/-- The share of slot `s` the device keeps for its product. -/
def kept (s : Fin 32) : PosShare TreeShare :=
  if s.val = 0 then fullShare.right.right else if s.val = 16 ∨ s.val = 31 then fullShare else fullShare.right

/-! ## The schedule -/

/-- The credit of one slot. -/
abbrev N : ℕ := (slot 0).view.dmaCredit
theorem N_pos : 0 < N := View.dmaCredit_pos _ (by decide)

/-- The transfers rightwards, and those leftwards. -/
def side (d : Bool) : Finset (Fin 31) := Finset.univ.filter fun j => decide (j.val < 16) = d

/-- What a neighbour's unit hands device `c`: the slots there that `c`'s transfers land in — from the device after it
    (`true`) those of the transfers rightwards, from the device before it those of the transfers leftwards. -/
def barPay (c : Dev nD) (d : Bool) : sProp 𝕄 :=
  bigSep (side d) fun j => iprop(∃ f : S32x64x2048.Idx → Elt F .f32, slotPts (tgt c j) (dst j) fullShare f)

variable (X : Dev nD → S64x2048.Idx → Elt F .f32)

def recvPay (c : Dev nD) (j : Fin 31) : sProp 𝕄 := slotPts c (dst j) fullShare (commOf X c)
def sendPay (c : Dev nD) (j : Fin 31) : sProp 𝕄 := slotPts c (src j) (shr j) (commOf X c)

/-- The payload of a cell of device `c`. -/
def payOf (c : Dev nD) (d : Bool) : Option Kd → sProp 𝕄
  | some (.inl _) => barPay c d
  | some (.inr (.inl j)) => sendPay X c j
  | some (.inr (.inr j)) => recvPay X c j
  | none => iprop(emp)

def dutyOf : Option Kd → Finset Bool
  | some (.inl _) => Finset.univ
  | some (.inr _) => {false}
  | none => ∅

def amountOf : Option Kd → ℕ
  | some (.inl _) => 1
  | _ => N

omit [FloatOps F] in
instance payOf_storable (c : Dev nD) (d : Bool) (k : Option Kd) : BI.Storable (upEmb : UEmb _ 𝕄) (payOf X c d k) := by
  rcases k with _ | (_ | j | j) <;> simp only [payOf, barPay, sendPay, recvPay] <;> infer_instance

/-- One round of every cell. -/
def ringRd : Rounds.Schedule (GSem nD τ sig) Bool 𝕄 where
  duties g r := if r = 0 ∧ g.1.2 = .tc then dutyOf (kindOf g.2) else ∅
  unitless _ := False
  amount g _ _ := amountOf (kindOf g.2)
  payload g _ d := payOf X g.1.1 d (kindOf g.2)
  amount_pos g _ _ _ := by
    rcases kindOf g.2 with _ | (_ | j)
    · exact N_pos
    · exact Nat.one_pos
    · exact N_pos

omit [FloatOps F] in
instance ringRd_payload_storable (g : GSem nD τ sig) (r : ℕ) (d : Bool) :
    BI.Storable (upEmb : UEmb _ 𝕄) ((ringRd (F := F) X).payload g r d) := payOf_storable X _ _ _

section Sched
variable (c : Dev nD) (j : Fin 31) (d : Bool)

omit [FloatOps F] in
theorem duties_bar : (ringRd X).duties (barCell c) 0 = Finset.univ := by
  dsimp only [ringRd]; rw [if_pos ⟨rfl, rfl⟩, kindOf_bar]; rfl
omit [FloatOps F] in
theorem duties_send : (ringRd X).duties (sendCell c j) 0 = {false} := by
  dsimp only [ringRd]; rw [if_pos ⟨rfl, rfl⟩, kindOf_send]; rfl
omit [FloatOps F] in
theorem duties_recv : (ringRd X).duties (recvCell c j) 0 = {false} := by
  dsimp only [ringRd]; rw [if_pos ⟨rfl, rfl⟩, kindOf_recv]; rfl
omit [FloatOps F] in
theorem duties_later (g : GSem nD τ sig) : ∀ r, 1 ≤ r → (ringRd X).duties g r = ∅ :=
  fun r hr => by dsimp only [ringRd]; rw [if_neg fun h => by omega]

omit [FloatOps F] in
theorem amount_bar : (ringRd X).amount (barCell c) 0 d = 1 := by dsimp only [ringRd]; rw [kindOf_bar]; rfl
omit [FloatOps F] in
theorem amount_send : (ringRd X).amount (sendCell c j) 0 d = N := by dsimp only [ringRd]; rw [kindOf_send]; rfl
omit [FloatOps F] in
theorem amount_recv : (ringRd X).amount (recvCell c j) 0 d = N := by dsimp only [ringRd]; rw [kindOf_recv]; rfl

omit [FloatOps F] in
theorem expect_bar : (ringRd X).expect (barCell c) 0 = 2 := by
  unfold Schedule.expect Schedule.amountOf
  rw [duties_bar, Finset.sum_congr rfl fun d _ => amount_bar X c d, Finset.sum_const, Finset.card_univ, Fintype.card_bool, smul_eq_mul]
omit [FloatOps F] in
theorem expect_send : (ringRd X).expect (sendCell c j) 0 = N := by
  unfold Schedule.expect Schedule.amountOf; rw [duties_send, Finset.sum_singleton, amount_send]
omit [FloatOps F] in
theorem expect_recv : (ringRd X).expect (recvCell c j) 0 = N := by
  unfold Schedule.expect Schedule.amountOf; rw [duties_recv, Finset.sum_singleton, amount_recv]

omit [FloatOps F] in
theorem payload_bar : (ringRd X).payload (barCell c) 0 d = barPay c d := by dsimp only [ringRd]; rw [kindOf_bar]; rfl
omit [FloatOps F] in
theorem payload_send : (ringRd X).payload (sendCell c j) 0 d = sendPay X c j := by dsimp only [ringRd]; rw [kindOf_send]; rfl
omit [FloatOps F] in
theorem payload_recv : (ringRd X).payload (recvCell c j) 0 d = recvPay X c j := by dsimp only [ringRd]; rw [kindOf_recv]; rfl

omit [FloatOps F] in
/-- Both neighbours' units together hand over a slot for every transfer. -/
theorem rest_bar : bigSep ((ringRd X).duties (barCell c) 0 \ ∅) (fun d => (ringRd X).payload (barCell c) 0 d)
    = (bigSep Finset.univ fun j => iprop(∃ f : S32x64x2048.Idx → Elt F .f32, slotPts (tgt c j) (dst j) fullShare f) : sProp 𝕄) := by
  have hu : (Finset.univ : Finset (Fin 31)) = side false ∪ side true := by decide
  rw [Finset.sdiff_empty, duties_bar, bigSep_univ_eq_bigSepL [false, true] (by decide) (by decide), bigSepL_cons_cons, bigSepL_singleton,
    payload_bar, payload_bar, hu, bigSep_union (by decide)]
  rfl
omit [FloatOps F] in
theorem rest_send : bigSep ((ringRd X).duties (sendCell c j) 0 \ ∅) (fun d => (ringRd X).payload (sendCell c j) 0 d) = sendPay X c j := by
  rw [Finset.sdiff_empty, duties_send, bigSep_singleton, payload_send]
omit [FloatOps F] in
theorem rest_recv : bigSep ((ringRd X).duties (recvCell c j) 0 \ ∅) (fun d => (ringRd X).payload (recvCell c j) 0 d) = recvPay X c j := by
  rw [Finset.sdiff_empty, duties_recv, bigSep_singleton, payload_recv]

end Sched

/-! ## What a device owes, and the order of the waits -/

/-- What device `c` owes while the transfers `S` are still to be sent: each one's credit at its target. -/
def owe (c : Dev nD) (S : Finset (Fin 31)) : CellTallies nD τ sig Unit := ∑ j ∈ S, tallyAt (recvCell (tgt c j) j) () N

theorem owe_empty (c : Dev nD) : owe c ∅ = 0 := Finset.sum_empty
theorem owe_erase (c : Dev nD) {S : Finset (Fin 31)} {j : Fin 31} (h : j ∈ S) :
    owe c S = owe c (S.erase j) + tallyAt (recvCell (tgt c j) j) () N := (Finset.sum_erase_add S _ h).symm

/-- At launch it owes all of them and a unit to each neighbour's barrier; the unit to the device before it is paid first. -/
def O₁ (c : Dev nD) : CellTallies nD τ sig Unit := owe c Finset.univ + tallyAt (barCell (nxt c)) () 1
def O₀ (c : Dev nD) : CellTallies nD τ sig Unit := O₁ c + tallyAt (barCell (prv c)) () 1

theorem tallyAt_pos {g g' : GSem nD τ sig} {n : ℕ} {u : Unit} (h : 0 < tallyAt g' () n g u) : g = g' := by
  rw [tallyAt_apply] at h
  by_contra hn
  rw [if_neg fun h' => hn h'.1] at h
  exact Nat.lt_irrefl 0 h

theorem owe_pos {c : Dev nD} {S : Finset (Fin 31)} {g : GSem nD τ sig} {u : Unit} (h : 0 < owe c S g u) :
    ∃ j ∈ S, g = recvCell (tgt c j) j := by
  induction S using Finset.induction_on with
  | empty => rw [owe_empty] at h; exact absurd h (Nat.lt_irrefl 0)
  | insert j S hj ih =>
    rw [owe_erase c (Finset.mem_insert_self j S), Finset.erase_insert hj, Pi.add_apply, Finsupp.add_apply] at h
    rcases Nat.add_pos_iff_pos_or_pos.mp h with h | h
    · obtain ⟨j', hj', e⟩ := ih h
      exact ⟨j', Finset.mem_insert_of_mem hj', e⟩
    · exact ⟨j, Finset.mem_insert_self j S, tallyAt_pos h⟩

theorem O₀_pos {c : Dev nD} {g : GSem nD τ sig} {u : Unit} (h : 0 < O₀ c g u) :
    (∃ j, g = recvCell (tgt c j) j) ∨ ∃ d, g = barCell d := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨j, -, e⟩ := owe_pos h; exact .inl ⟨j, e⟩
    · exact .inr ⟨_, tallyAt_pos h⟩
  · exact .inr ⟨_, tallyAt_pos h⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier comes first, then the receive cells by the hop that pays them; nothing is ever owed to the others. -/
def levelOf : Option Kd → ℕ
  | some (.inl _) => 1
  | some (.inr (.inr j)) => j.val % 16 + 2
  | _ => 0
def lv (g : GSem nD τ sig) (_ : Unit) : ℕ := levelOf (kindOf g.2)

theorem lv_bar (c : Dev nD) : lv (barCell c) () = 1 := by unfold lv; rw [kindOf_bar]; rfl
theorem lv_recv (c : Dev nD) (j : Fin 31) : lv (recvCell c j) () = j.val % 16 + 2 := by unfold lv; rw [kindOf_recv]; rfl
/-- A semaphore below the kernel's own is no cell. -/
theorem lv_stage (c : Dev nD) (q : DmaSem sig) (hq : q.val < 4) : lv ((c : Thread nD τ), .dma q) () = 0 := by
  unfold lv
  rcases h : kindOf (.dma q) with _ | k
  · rfl
  · have e : csem k = .dma q := (Function.partialInv_of_injective csem_injective _ _).mp h
    have e' := congrArg semNo e
    rcases k with _ | j | j
    · exact absurd e (fun h => by cases h)
    · rfl
    · simp only [csem, semNo_sR] at e'
      have : (if j.val < 16 then 37 + j.val else 38 + j.val) = q.val := e'
      split_ifs at this <;> omega

omit [FloatOps F] in
/-- A wait below everything owed is allowed. -/
theorem mayWait_below (c : Dev nD) (sm : SemLoc sig) (n : ℕ) (O : CellTallies nD τ sig Unit)
    (hsm : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

omit [FloatOps F] in
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine mayWait_below c _ 0 _ (le_of_eq (lv_stage c q hq)) fun g u hg => ?_
    rcases O₀_pos hg with ⟨j, rfl⟩ | ⟨d, rfl⟩
    · exact ⟨rfl, by rw [lv_recv]; omega⟩
    · exact ⟨rfl, by rw [lv_bar]; omega⟩
  · rw [MayWait_zero]; iintro -; iempintro

omit [FloatOps F] in
/-- At its barrier a device owes only transfers. -/
theorem mayWait_bar (c : Dev nD) (S : Finset (Fin 31)) :
    (levAts L lv : sProp 𝕄) ⊢ MayWait (c : Thread nD τ) (.reg barS) () (owe c S) :=
  mayWait_below c _ 1 _ (le_of_eq (lv_bar c)) fun g u hg => by
    obtain ⟨j, -, rfl⟩ := owe_pos hg
    exact ⟨rfl, by rw [lv_recv]; omega⟩

omit [FloatOps F] in
/-- At the wait for transfer `j` it owes only transfers of later hops. -/
theorem mayWait_recv (c : Dev nD) (j : Fin 31) (S : Finset (Fin 31)) (h : ∀ j' ∈ S, j.val % 16 < j'.val % 16) :
    (levAts L lv : sProp 𝕄) ⊢ MayWait (c : Thread nD τ) (.dma (sR j)) () (owe c S) :=
  mayWait_below c _ (j.val % 16 + 2) _ (le_of_eq (lv_recv c j)) fun g u hg => by
    obtain ⟨j', hj', rfl⟩ := owe_pos hg
    exact ⟨rfl, by rw [lv_recv]; have := h j' hj'; omega⟩

/-! ## What every device knows -/

/-- Every cell's agreement, at the names `K`, and that every cell has reached its round. -/
def records (K : Dev nD × Kd → ℕ) : sProp 𝕄 :=
  iprop((bigSep Finset.univ fun ck : Dev nD × Kd => cellInv ER (ringRd X) (K ck) (kcell ck))
    ∗ bigSep Finset.univ fun ck : Dev nD × Kd => reached ER (kcell ck) 0)

omit [FloatOps F] in
instance records_persistent (K : Dev nD × Kd → ℕ) : BI.Persistent (records X K) := by unfold records; infer_instance

omit [FloatOps F] in
theorem inv_at (K : Dev nD × Kd → ℕ) (ck : Dev nD × Kd) : records X K ⊢ cellInv ER (ringRd X) (K ck) (kcell ck) := by
  have h : (bigSep Finset.univ fun ck : Dev nD × Kd => (cellInv ER (ringRd X) (K ck) (kcell ck) : sProp 𝕄))
      ⊢ cellInv ER (ringRd X) (K ck) (kcell ck) := bigSep_elim (Finset.mem_univ ck)
  unfold records
  iintro ⟨H, -⟩
  iapply h
  iexact H
omit [FloatOps F] in
theorem reached_at (K : Dev nD × Kd → ℕ) (ck : Dev nD × Kd) : records X K ⊢ (reached ER (kcell ck) 0 : sProp 𝕄) := by
  have h : (bigSep Finset.univ fun ck : Dev nD × Kd => (reached ER (kcell ck) 0 : sProp 𝕄)) ⊢ reached ER (kcell ck) 0 :=
    bigSep_elim (Finset.mem_univ ck)
  unfold records
  iintro ⟨-, H⟩
  iapply h
  iexact H

end Cert.Ring

end
-- ==== Proof.Pieces.lean ====
/-
What each piece of the kernel's body does: a transfer, the wait for one to land, the wait for one to have read its slot, a
product, the filling of slot 0 and the handshake with the neighbours. Each is stated for every device and every transfer
or slot at once.
-/
module

public import proofs.«01_k».proof.Proof.Protocol

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` and ends in `Q`. -/
abbrev run (c : Dev nD) (p : Prog (Eff F) PUnit) (Q : PUnit → sProp 𝕄) : sProp 𝕄 :=
  wp frame (wpE (defs₀ (F := F)) 𝒱₀ (c : Thread nD τ) none) Set.univ p Q

/-- Two pieces in turn. -/
theorem run_seq (c : Dev nD) (p : Prog (Eff F) PUnit) (k : PUnit → Prog (Eff F) PUnit) (Q : PUnit → sProp 𝕄) :
    run c (p >>= k) Q = run c p fun x => run c (k x) Q := wp_bind _ _ _ _ _ _

/-- The loop: what each turn carries from one count to the next, all turns carry from the first to the last. -/
theorem run_seqN (c : Dev nD) (R : sProp 𝕄) [BI.Persistent R] : ∀ (n : ℕ) (p : Fin n → Prog (Eff F) PUnit) (I : ℕ → sProp 𝕄)
    (_ : ∀ (i : Fin n) (Q : PUnit → sProp 𝕄), iprop(R ∗ I i.val ∗ (I (i.val + 1) -∗ Q ⟨⟩)) ⊢ run c (p i) Q)
    (Q : PUnit → sProp 𝕄), iprop(R ∗ I 0 ∗ (I n -∗ Q ⟨⟩)) ⊢ run c (seqN n p) Q
  | 0, p, I, _, Q => by
    show _ ⊢ run c (Prog.ret ⟨⟩) Q
    unfold run
    rw [wp_ret]
    iintro ⟨-, HI, HQ⟩
    imodintro
    iapply HQ; iexact HI
  | n + 1, p, I, h, Q => by
    show _ ⊢ run c (p 0 >>= fun _ => seqN n fun i => p i.succ) Q
    have h0 : ∀ Q, iprop(R ∗ I 0 ∗ (I 1 -∗ Q ⟨⟩)) ⊢ run c (p 0) Q := h 0
    rw [run_seq]
    iintro ⟨#HR, HI, HQ⟩
    iapply (h0 _)
    isplitr; · iexact HR
    isplitl [HI]; · iexact HI
    iintro HI
    iapply (run_seqN c R n (fun i => p i.succ) (fun i => I (i + 1)) fun i Q => h i.succ Q)
    isplitr; · iexact HR
    isplitl [HI]; · iexact HI
    iexact HQ

/-! ## What the pieces hold -/

/-- What device `c` still owes, whatever it has waited for so far. -/
def owing (c : Dev nD) (O : CellTallies nD τ sig Unit) : sProp 𝕄 := iprop(∃ W, owes (c : Thread nD τ) O W)

/-- What transfer `j` of device `c` needs to be sent, besides its source, and what is left of it. -/
def sendPre (c : Dev nD) (j : Fin 31) : sProp 𝕄 :=
  iprop(dutyTok ER (sendCell c j) 0 false ∗ dutyTok ER (recvCell (tgt c j) j) 0 false
    ∗ ∃ f : S32x64x2048.Idx → Elt F .f32, slotPts (tgt c j) (dst j) fullShare f)
def sent (c : Dev nD) (j : Fin 31) : sProp 𝕄 := cred (tallyAt (sendCell c j) () N)

/-- What the wait for transfer `j` to land needs. -/
def recvPre (c : Dev nD) (j : Fin 31) : sProp 𝕄 :=
  iprop(atPos ER (recvCell c j) 0 ∅ 0 ∗ cred (tallyAt (recvCell c j) () N))

/-- Device `c`'s second operand and its output. -/
def wPts (c : Dev nD) (w : S2048x64.Idx → Elt F .f32) : sProp 𝕄 := ((c : Thread nD τ).loc cc0_stg1_0) ↦{fullShare} w
def oPts (c : Dev nD) (g : S2048x64.Idx → Elt F .f32) : sProp 𝕄 := ((c : Thread nD τ).loc cc0_stg2_0) ↦{fullShare} g

/-- The output with the bands of the slots `D` in place. -/
def outPts (X : Dev nD → S64x2048.Idx → Elt F .f32) (c : Dev nD) (w : S2048x64.Idx → Elt F .f32) (D : Finset (Fin 32)) : sProp 𝕄 :=
  iprop(∃ g, ⌜Good X w c D g⌝ ∗ oPts c g)

variable (X : Dev nD → S64x2048.Idx → Elt F .f32) (K : Dev nD × Kd → ℕ)

/-! ## The transfers -/

omit [FloatOps F] in
theorem sendPay_view (c : Dev nD) (j : Fin 31) :
    sendPay X c j = ((slot (src j)).view.loc (c : Thread nD τ) ↦[(slot (src j)).view.set]{shr j} commOf X c : sProp 𝕄) :=
  slotPts_view _ _ _ _

omit [FloatOps F] in
/-- What a transfer writes is the target's slot, filled. -/
theorem landed (c : Dev nD) (j : Fin 31) (f : S32x64x2048.Idx → Elt F .f32) :
    ((slot (dst j)).view.loc (tgt c j : Thread nD τ) ↦[(slot (dst j)).view.set]{fullShare}
        (slot (dst j)).view.write (Elt F) f ((slot (src j)).view.read (Elt F) (commOf X c)) Finset.univ : sProp 𝕄)
      = recvPay X (tgt c j) j :=
  (slotPts_view (tgt c j) (dst j) fullShare _).symm.trans
    (slotPts_congr _ _ _ (write_slot X (tgt c j) (dst j) f _ (by rw [read_slot, origin_tgt])))

omit [FloatOps F] in
theorem amount_slot (s : Fin 32) (q : DmaSem sig) : (slot s).view.amount (.dma q) = N := rfl

/-- A transfer: the source's share goes out on loan, its target's slot is on its way. -/
theorem run_xfer (c : Dev nD) {S : Finset (Fin 31)} {j : Fin 31} (hj : j ∈ S) (Q : PUnit → sProp 𝕄) :
    iprop(records X K ∗ owing c (owe c S) ∗ sendPre c j ∗ sendPay X c j
        ∗ (owing c (owe c (S.erase j)) ∗ sent c j -∗ Q ⟨⟩))
      ⊢ run c (xfer c j) Q := by
  unfold owing sendPre sent xfer send run
  simp only [slotPts_view, sendPay_view, Prog.lift]
  iintro ⟨#HR, ⟨%W, HO⟩, ⟨HtS, HtV, ⟨%f, Hd⟩⟩, Hs, HQ⟩
  iapply (Rounds.wp_send_pointsTo (defs := defs₀ (F := F)) (src := slot (src j)) (c' := (tgt c j : Thread nD τ)) (dst := slot (dst j))
    (sS := .dma (sS j)) (sem := .dma (sR j)) (q := shr j) (fs := commOf X c) 𝒱₀ ER (ringRd X) (c : Thread nD τ) none (κ₁ := K (c, .inr (.inl j))) (κ₂ := K (tgt c j, .inr (.inr j)))
    (r₁ := 0) (r₂ := 0) (d₁ := false) (d₂ := false) (fd := f)
    (by rw [duties_send]; exact Finset.mem_singleton_self _) (by rw [duties_recv]; exact Finset.mem_singleton_self _)
    () () N (amount_slot _ _) (amount_send X c j false) (amount_recv X (tgt c j) j false) (owe c (S.erase j)) (owe_erase c hj) (W := W)
    (Entails.of_eq ((sendPay_view X c j).symm.trans (payload_send X c j false).symm))
    (Entails.of_eq ((landed X c j f).trans (payload_recv X (tgt c j) j false).symm)))
    $$ [HO HtS HtV Hd Hs]
  · isplitr; · iapply (inv_at X K (c, .inr (.inl j))); iexact HR
    isplitr; · iapply (inv_at X K (tgt c j, .inr (.inr j))); iexact HR
    isplitl [Hs]; · iexact Hs
    isplitl [Hd]; · iexact Hd
    isplitl [HO]; · iexact HO
    isplitl [HtS]; · iexact HtS
    isplitr; · iapply (reached_at X K (c, .inr (.inl j))); iexact HR
    isplitl [HtV]; · iexact HtV
    iapply (reached_at X K (tgt c j, .inr (.inr j))); iexact HR
  iintro ⟨Hc, HO⟩
  rw [wp_ret]; imodintro
  iapply HQ
  isplitl [HO]; · iexists W; iexact HO
  iexact Hc

/-- The wait for a transfer to land: its slot is here, filled. -/
theorem run_arrive (c : Dev nD) {S : Finset (Fin 31)} {j : Fin 31} (hj : ∀ j' ∈ S, j.val % 16 < j'.val % 16) (Q : PUnit → sProp 𝕄) :
    iprop(records X K ∗ levAts L lv ∗ owing c (owe c S) ∗ recvPre c j
        ∗ (owing c (owe c S) ∗ atPos ER (recvCell c j) 1 ∅ 0 ∗ recvPay X c j -∗ Q ⟨⟩))
      ⊢ run c (arrive j) Q := by
  unfold owing recvPre arrive await run
  simp only [Prog.lift]
  iintro ⟨#HR, #Hl, ⟨%W, HO⟩, ⟨Hat, Hc⟩, HQ⟩
  iapply (Rounds.wp_wait_rest_token 𝒱₀ ER (ringRd X) (c : Thread nD τ) none (κ := K (c, .inr (.inr j)))
      (wpE_waitDma2_eq 𝒱₀ (c : Thread nD τ) none Set.univ) (Set.mem_univ _) () (O := owe c S) (W := W) (R := 0) (m := 0) (T := ∅)
      (by rw [Nat.zero_add, expect_recv])) $$ [Hc HO Hat]
  · isplitr; · iapply (inv_at X K (c, .inr (.inr j))); iexact HR
    isplitl [Hc]; · iexact Hc
    isplitl [HO]; · iexact HO
    isplitr; · iapply (mayWait_recv c j S hj); iexact Hl
    iexact Hat
  iintro ⟨HO, Hat, -, Hpay⟩
  rw [wp_ret]; imodintro
  iapply HQ
  isplitl [HO]; · iexists _; iexact HO
  isplitl [Hat]; · iexact Hat
  iapply (Entails.of_eq (rest_recv X c j)); iexact Hpay

/-- The wait for a transfer to have read its source: the share on loan is back. -/
theorem run_drain (c : Dev nD) (j : Fin 31) (Q : PUnit → sProp 𝕄) :
    iprop(records X K ∗ owing c 0 ∗ (atPos ER (sendCell c j) 0 ∅ 0 ∗ sent c j)
        ∗ (owing c 0 ∗ atPos ER (sendCell c j) 1 ∅ 0 ∗ sendPay X c j -∗ Q ⟨⟩))
      ⊢ run c (drain j) Q := by
  unfold owing sent drain await run
  simp only [Prog.lift]
  iintro ⟨#HR, ⟨%W, HO⟩, ⟨Hat, Hc⟩, HQ⟩
  iapply (Rounds.wp_wait_rest_token 𝒱₀ ER (ringRd X) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at X K (c, .inr (.inl j))); iexact HR
    isplitl [Hc]; · iexact Hc
    isplitl [HO]; · iexact HO
    isplitr; · rw [MayWait_zero]; iempintro
    iexact Hat
  iintro ⟨HO, Hat, -, Hpay⟩
  rw [wp_ret]; imodintro
  iapply HQ
  isplitl [HO]; · iexists _; iexact HO
  isplitl [Hat]; · iexact Hat
  iapply (Entails.of_eq (rest_send X c j)); iexact Hpay

/-! ## The products -/

theorem zero₂ : (![0, 0] : Fin 2 → ℕ) = fun _ => 0 := funext fun a => by fin_cases a <;> rfl

/-- A product: the band of slot `s` is in the output. -/
theorem run_mult (c : Dev nD) (s : Fin 32) (q : PosShare TreeShare) (w : S2048x64.Idx → Elt F .f32) (D : Finset (Fin 32))
    (Q : PUnit → sProp 𝕄) :
    iprop(slotPts c s q (commOf X c) ∗ wPts c w ∗ outPts X c w D
        ∗ (slotPts c s q (commOf X c) ∗ wPts c w ∗ outPts X c w (insert s D) -∗ Q ⟨⟩))
      ⊢ run c (mult c s) Q := by
  unfold slotPts wPts outPts oPts mult gemm run
  simp only [Prog.lift, Prog.bind_op, Prog.bind_ret]
  iintro ⟨Hs, Hw, ⟨%g, %hg, Ho⟩, HQ⟩
  iapply (wp_load 𝒱₀ (c : Thread nD τ) none Set.univ (m := cM) (by rw [load_set])) $$ Hs; iintro Hs
  rw [load_slot]
  iapply (wp_load 𝒱₀ (c : Thread nD τ) none Set.univ (m := wM) (Finset.subset_univ _)) $$ Hw; iintro Hw
  rw [show wM.view.readAt (Elt F) (Rect.unit (s := S2048x64) ![0, 0] S2048x64.size inb_S2048x64_S2048x64_0_0).toLoadRect w = w from
    Memref.readAt_unit_zero (Elt F) cc0_stg1_0 zero₂ _ w]
  iapply (wp_load 𝒱₀ (c : Thread nD τ) none Set.univ (m := oM) (Finset.subset_univ _)) $$ Ho; iintro Ho
  iapply (wp_store 𝒱₀ (c : Thread nD τ) none Set.univ (m := oM) (r := Rect.unit (s := S2048x64) ![64 * (origin c s).val, 0] S64x64.size (rowOff_inb _)) (Mk := Finset.univ) (Finset.subset_univ _)) $$ Ho; iintro Ho
  rw [wp_ret]; imodintro
  iapply HQ
  isplitl [Hs]; · iexact Hs
  isplitl [Hw]; · iexact Hw
  iexists _
  isplitr; · ipureintro; exact hg.store s
  iexact Ho

/-! ## The start -/

/-- The device's rows go into slot 0. -/
theorem run_fill (c : Dev nD) (f : S32x64x2048.Idx → Elt F .f32) (Q : PUnit → sProp 𝕄) :
    iprop((((c : Thread nD τ).loc cc0_stg0_0) ↦{fullShare} X c) ∗ slotPts c 0 fullShare f
        ∗ ((((c : Thread nD τ).loc cc0_stg0_0) ↦{fullShare} X c) ∗ slotPts c 0 fullShare (commOf X c) -∗ Q ⟨⟩))
      ⊢ run c fill Q := by
  rw [← slotPts_congr c 0 fullShare (write_fill X c f)]
  unfold slotPts fill run
  simp only [Prog.lift, Prog.bind_op, Prog.bind_ret]
  iintro ⟨Hx, Hs, HQ⟩
  iapply (wp_load 𝒱₀ (c : Thread nD τ) none Set.univ (m := xM) (Finset.subset_univ _)) $$ Hx; iintro Hx
  rw [show xM.view.readAt (Elt F) (Rect.unit (s := S64x2048) ![0, 0] S64x2048.size inb_S64x2048_S64x2048_0_0).toLoadRect (X c) = X c from
    Memref.readAt_unit_zero (Elt F) cc0_stg0_0 zero₂ _ (X c)]
  iapply (wp_load 𝒱₀ (c : Thread nD τ) none Set.univ (m := cM) (by rw [load_set])) $$ Hs; iintro Hs
  iapply (wp_store 𝒱₀ (c : Thread nD τ) none Set.univ (m := cM) (r := slotR 0) (Mk := Finset.univ) (subset_of_eq (access_set 0))) $$ Hs; iintro Hs
  rw [wp_ret]; imodintro
  iapply HQ
  isplitl [Hx]; · iexact Hx
  iexact Hs

/-- The slots of device `c` the transfers on one side land in. -/
def lent (c : Dev nD) (d : Bool) : sProp 𝕄 :=
  bigSep (side d) fun j => iprop(∃ f : S32x64x2048.Idx → Elt F .f32, slotPts c (dst j) fullShare f)

omit [FloatOps F] in
theorem barPay_prv (c : Dev nD) : (barPay (prv c) true : sProp 𝕄) = lent c true :=
  bigSep_congr fun j hj => by
    have h : j.val < 16 := by simpa [side] using hj
    unfold tgt; rw [if_pos h, nxt_prv]
omit [FloatOps F] in
theorem barPay_nxt (c : Dev nD) : (barPay (nxt c) false : sProp 𝕄) = lent c false :=
  bigSep_congr fun j hj => by
    have h : ¬ j.val < 16 := by simpa [side] using hj
    unfold tgt; rw [if_neg h, prv_nxt]

/-- What the handshake needs. -/
def shakePre (c : Dev nD) : sProp 𝕄 :=
  iprop(atPos ER (barCell c) 0 ∅ 0 ∗ cred (tallyAt (barCell c) () 2)
    ∗ dutyTok ER (barCell (prv c)) 0 true ∗ dutyTok ER (barCell (nxt c)) 0 false ∗ lent c true ∗ lent c false)

/-- The handshake: the device's own slots for the slots its transfers land in. -/
theorem run_handshake (c : Dev nD) (Q : PUnit → sProp 𝕄) :
    iprop(records X K ∗ levAts L lv ∗ owing c (O₀ c) ∗ shakePre c
        ∗ (owing c (owe c Finset.univ) ∗ atPos ER (barCell c) 1 ∅ 0
          ∗ (bigSep Finset.univ fun j => iprop(∃ f : S32x64x2048.Idx → Elt F .f32, slotPts (tgt c j) (dst j) fullShare f)) -∗ Q ⟨⟩))
      ⊢ run c (handshake c) Q := by
  unfold owing shakePre handshake run
  simp only [semSignalWord, semWaitWord, Prog.lift, Prog.bind_op, Prog.bind_ret, dev1_eq, dev2_eq]
  iintro ⟨#HR, #Hl, ⟨%W, HO⟩, ⟨Hat, Hc, HtP, HtN, Hr, Hf⟩, HQ⟩
  unfold O₀
  iapply (Rounds.wp_signal 𝒱₀ ER (ringRd X) (c : Thread nD τ) none (dst := (prv c : Thread nD τ)) (κ := K (prv c, .inl ()))
      (d := true) (by rw [duties_bar]; exact Finset.mem_univ _) ((amount_bar X (prv c) true).trans (by decide)) () (O₁ c) rfl)
    $$ [HO HtP Hr]
  · isplitr; · iapply (inv_at X K (prv c, .inl ())); iexact HR
    isplitl [HO]; · iexact HO
    isplitl [HtP]; · iexact HtP
    isplitl [Hr]; · rw [payload_bar, barPay_prv]; iexact Hr
    iapply (reached_at X K (prv c, .inl ())); iexact HR
  iintro HO
  unfold O₁
  iapply (Rounds.wp_signal 𝒱₀ ER (ringRd X) (c : Thread nD τ) none (dst := (nxt c : Thread nD τ)) (κ := K (nxt c, .inl ()))
      (d := false) (by rw [duties_bar]; exact Finset.mem_univ _) ((amount_bar X (nxt c) false).trans (by decide)) () (owe c Finset.univ) rfl)
    $$ [HO HtN Hf]
  · isplitr; · iapply (inv_at X K (nxt c, .inl ())); iexact HR
    isplitl [HO]; · iexact HO
    isplitl [HtN]; · iexact HtN
    isplitl [Hf]; · rw [payload_bar, barPay_nxt]; iexact Hf
    iapply (reached_at X K (nxt c, .inl ())); iexact HR
  iintro HO
  iapply (Rounds.wp_wait_rest_token 𝒱₀ ER (ringRd X) (c : Thread nD τ) none (κ := K (c, .inl ()))
      (wpE_semWait_eq 𝒱₀ (c : Thread nD τ) none Set.univ) (Set.mem_univ _) () (O := owe c Finset.univ) (W := W) (R := 0) (m := 0) (T := ∅)
      (by rw [expect_bar]; decide)) $$ [Hc HO Hat]
  · isplitr; · iapply (inv_at X K (c, .inl ())); iexact HR
    isplitl [Hc]; · iexact Hc
    isplitl [HO]; · iexact HO
    isplitr; · iapply (mayWait_bar c Finset.univ); iexact Hl
    iexact Hat
  iintro ⟨HO, Hat, -, Hpay⟩
  rw [wp_ret]; imodintro
  iapply HQ
  isplitl [HO]; · iexists _; iexact HO
  isplitl [Hat]; · iexact Hat
  iapply (Entails.of_eq (rest_bar X c)); iexact Hpay

end Cert.Ring

end
-- ==== Proof.Body.lean ====
/-
The kernel's body, for a device at a time: from the handshake to the last drained transfer. What the device holds between
two pieces is a function of three sets: the transfers still to land, the transfers still to be sent, and the slots whose
bands the output has.
-/
module

public import proofs.«01_k».proof.Proof.Pieces
public import Idealize.ShloMosaic.Lib.Rounds.Family

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S64x2048.Idx → Elt F .f32) (K : Dev nD × Kd → ℕ)

omit [FloatOps F] in
/-- One member of a family taken out. -/
theorem peel {I : Type} [DecidableEq I] {s : Finset I} {i : I} (h : i ∈ s) {Φ : I → sProp 𝕄} :
    bigSep s Φ = iprop(Φ i ∗ bigSep (s.erase i) Φ) := BI.bigSep_erase h
omit [FloatOps F] in
/-- One member put in. -/
theorem put {I : Type} [DecidableEq I] {s : Finset I} {i : I} (h : i ∉ s) {Φ : I → sProp 𝕄} :
    bigSep (insert i s) Φ = iprop(Φ i ∗ bigSep s Φ) := BI.bigSep_insert h
omit [FloatOps F] in
/-- A family in two parts. -/
theorem parts {I : Type} [DecidableEq I] {s t : Finset I} (h : Disjoint s t) {Φ : I → sProp 𝕄} :
    bigSep (s ∪ t) Φ = iprop(bigSep s Φ ∗ bigSep t Φ) := BI.bigSep_union h

omit [FloatOps F] in
theorem swap (P Q : sProp 𝕄) : iprop(P ∗ Q) ⊢ iprop(Q ∗ P) := by
  iintro ⟨H, H'⟩
  isplitl [H'] <;> iassumption

/-! ## Shares -/

/-- The part of slot `j + 1` the next transfer borrows; the last slot each way is passed on to nobody. -/
def onward (c : Dev nD) (j : Fin 31) : sProp 𝕄 :=
  if j.val = 15 ∨ j.val = 30 then iprop(emp) else slotPts c (dst j) fullShare.left (commOf X c)

omit [FloatOps F] in
/-- It is the source of the transfer numbered one higher. -/
theorem onward_eq (c : Dev nD) {j j' : Fin 31} (h : j'.val = j.val + 1) (hj : j.val ≠ 15) : onward X c j = sendPay X c j' := by
  have hj' := j'.isLt
  have hs : src j' = dst j := by
    unfold src dst; rw [if_neg (by omega)]; exact Fin.ext (by simp; omega)
  unfold onward sendPay shr
  rw [if_neg (by omega), hs, if_neg (by omega)]

omit [FloatOps F] in
theorem onward_last (c : Dev nD) {j : Fin 31} (h : j.val = 15 ∨ j.val = 30) : onward X c j = iprop(emp) := if_pos h

omit [FloatOps F] in
/-- A filled slot is the part kept and the part passed on. -/
theorem recv_split (c : Dev nD) (j : Fin 31) :
    recvPay X c j ⊣⊢ iprop(slotPts c (dst j) (kept (dst j)) (commOf X c) ∗ onward X c j) := by
  have hd : (dst j).val = j.val + 1 := rfl
  unfold recvPay onward kept
  rw [hd, if_neg (Nat.succ_ne_zero _)]
  by_cases h : j.val = 15 ∨ j.val = 30
  · rw [if_pos (by omega), if_pos h]
    constructor
    · iintro H
      isplitl
      · iexact H
      · iempintro
    · iintro ⟨H, -⟩
      iexact H
  · rw [if_neg (by omega), if_neg h]
    have e := slotPts_halves c (dst j) fullShare (commOf X c)
    exact ⟨e.1.trans (swap _ _), (swap _ _).trans e.2⟩

omit [FloatOps F] in
/-- Slot 0 is the part kept and the parts the first transfer each way borrows. -/
theorem slot0_split (c : Dev nD) :
    slotPts c 0 fullShare (commOf X c) ⊣⊢ iprop(slotPts c 0 (kept 0) (commOf X c) ∗ sendPay X c 0 ∗ sendPay X c 16) := by
  have e := slotPts_halves c 0 fullShare (commOf X c)
  have e' := slotPts_halves c 0 fullShare.right (commOf X c)
  have h0 : sendPay X c 0 = slotPts c 0 fullShare.left (commOf X c) := rfl
  have h1 : sendPay X c 16 = slotPts c 0 fullShare.right.left (commOf X c) := rfl
  have hk : kept 0 = fullShare.right.right := rfl
  rw [h0, h1, hk]
  constructor
  · iintro H
    ihave H := e.1 $$ H
    icases H with ⟨Hl, Hr⟩
    ihave H := e'.1 $$ Hr
    icases H with ⟨Hrl, Hrr⟩
    isplitl [Hrr]; · iexact Hrr
    isplitl [Hl] <;> iassumption
  · iintro ⟨Hrr, Hl, Hrl⟩
    iapply e.2
    isplitl [Hl]; · iexact Hl
    iapply e'.2
    isplitl [Hrl] <;> iassumption

/-- The transfer numbered one higher, the last followed by the first. -/
def turn : Fin 31 ≃ Fin 31 :=
  ⟨fun j => ⟨(j.val + 1) % 31, Nat.mod_lt _ (by decide)⟩, fun j => ⟨(j.val + 30) % 31, Nat.mod_lt _ (by decide)⟩, by decide, by decide⟩

omit [FloatOps F] in
/-- The shares on loan, regrouped: the two of slot 0 and each slot's part passed on. -/
theorem loans (c : Dev nD) :
    (bigSep Finset.univ fun j => sendPay X c j) ⊢ iprop(sendPay X c 0 ∗ sendPay X c 16 ∗ bigSep Finset.univ fun j => onward X c j) := by
  have h15 : (15 : Fin 31) ∈ (Finset.univ : Finset (Fin 31)).erase 30 := by decide
  have hc : ∀ j ∈ ((Finset.univ : Finset (Fin 31)).erase 30).erase 15, sendPay X c (turn j) = onward X c j := fun j hj => by
    have h1 : j ≠ 15 := (Finset.mem_erase.mp hj).1
    have h2 : j ≠ 30 := (Finset.mem_erase.mp (Finset.mem_erase.mp hj).2).1
    refine (onward_eq X c ?_ fun h => h1 (Fin.ext h)).symm
    have h3 : j.val ≠ 30 := fun h => h2 (Fin.ext h)
    have := j.isLt
    show (j.val + 1) % 31 = j.val + 1
    omega
  rw [bigSep_univ_equiv turn (fun j => sendPay X c j), peel (Finset.mem_univ (30 : Fin 31)), peel h15,
    bigSep_congr hc]
  rw [peel (Φ := fun j => onward X c j) (Finset.mem_univ (30 : Fin 31)), peel (Φ := fun j => onward X c j) h15,
    onward_last X c (j := 15) (.inl rfl), onward_last X c (j := 30) (.inr rfl)]
  have e0 : turn 30 = 0 := by decide
  have e16 : turn 15 = 16 := by decide
  rw [e0, e16]
  iintro ⟨H0, H16, H⟩
  isplitl [H0]; · iexact H0
  isplitl [H16]; · iexact H16
  isplitr; · iempintro
  isplitr; · iempintro
  iexact H

/-! ## The whole buffer and its slots -/

omit [FloatOps F] in
theorem bigSep_slots (Φ : Fin 32 → sProp 𝕄) : bigSep Finset.univ Φ = iprop(Φ 0 ∗ bigSep Finset.univ fun j => Φ (dst j)) := by
  have hu : (Finset.univ : Finset (Fin 32)) = insert 0 (Finset.univ.map ⟨dst, Fin.succ_injective 31⟩) := by decide
  rw [hu, put (by decide), bigSep_map]
  rfl

omit [FloatOps F] in
theorem buffer_slots (c : Dev nD) (f : S32x64x2048.Idx → Elt F .f32) :
    (((c : Thread nD τ).loc cc0_scratch0) ↦{fullShare} f : sProp 𝕄)
      = iprop(slotPts c 0 fullShare f ∗ bigSep Finset.univ fun j => slotPts c (dst j) fullShare f) := by
  rw [← bigSep_slots fun s => slotPts c s fullShare f]
  show (((c : Thread nD τ).loc cc0_scratch0) ↦[Finset.univ]{fullShare} f : sProp 𝕄) = _
  rw [← biUnion_slotSet]
  exact pointsTo_biUnion _ _ fun _ _ _ _ h => slotSet_disjoint h

omit [FloatOps F] in
/-- At the start: slot 0, and the slots to be lent to the neighbours. -/
theorem buffer_lend (c : Dev nD) (f : S32x64x2048.Idx → Elt F .f32) :
    (((c : Thread nD τ).loc cc0_scratch0) ↦{fullShare} f : sProp 𝕄) ⊢ iprop(slotPts c 0 fullShare f ∗ lent c true ∗ lent c false) := by
  have hu : (Finset.univ : Finset (Fin 31)) = side true ∪ side false := by decide
  have hm (d : Bool) : (bigSep (side d) fun j => slotPts c (dst j) fullShare f : sProp 𝕄) ⊢ lent c d :=
    bigSep_mono fun j _ => show slotPts c (dst j) fullShare f ⊢ iprop(∃ f : S32x64x2048.Idx → Elt F .f32, slotPts c (dst j) fullShare f) from by
      iintro H; iexists f; iexact H
  rw [buffer_slots, hu, parts (by decide)]
  iintro ⟨H0, Ht, Hf⟩
  isplitl [H0]; · iexact H0
  isplitl [Ht]; · iapply (hm true); iexact Ht
  iapply (hm false); iexact Hf

omit [FloatOps F] in
/-- At the end: everything kept and everything back from loan is the whole buffer. -/
theorem buffer_back (c : Dev nD) :
    iprop(slotPts c 0 (kept 0) (commOf X c) ∗ (bigSep Finset.univ fun j => slotPts c (dst j) (kept (dst j)) (commOf X c))
        ∗ bigSep Finset.univ fun j => sendPay X c j)
      ⊢ (((c : Thread nD τ).loc cc0_scratch0) ↦{fullShare} commOf X c : sProp 𝕄) := by
  rw [buffer_slots]
  iintro ⟨H0, Hk, Hs⟩
  ihave Hs := (loans X c) $$ Hs
  icases Hs with ⟨Ha, Hb, Ho⟩
  isplitl [H0 Ha Hb]
  · iapply (slot0_split X c).2
    isplitl [H0]; · iexact H0
    isplitl [Ha] <;> iassumption
  · iapply ((Entails.of_eq (bigSep_sep' Finset.univ (fun j => slotPts c (dst j) (kept (dst j)) (commOf X c)) fun j => onward X c j).symm).trans
      (bigSep_mono fun j _ => (recv_split X c j).2))
    isplitl [Hk] <;> iassumption

/-! ## Between two pieces -/

/-- What is left of a landed transfer. -/
def recvd (c : Dev nD) (j : Fin 31) : sProp 𝕄 :=
  iprop(atPos ER (recvCell c j) 1 ∅ 0 ∗ slotPts c (dst j) (kept (dst j)) (commOf X c))

/-- With the transfers `A` still to land, `S` still to be sent, and the bands of the slots `D` in the output. -/
def St (w : S2048x64.Idx → Elt F .f32) (c : Dev nD) (A S : Finset (Fin 31)) (D : Finset (Fin 32)) : sProp 𝕄 :=
  iprop(owing c (owe c S) ∗ (bigSep A fun j => recvPre c j) ∗ (bigSep Aᶜ fun j => recvd X c j)
    ∗ (bigSep S fun j => sendPre c j) ∗ (bigSep Sᶜ fun j => sent c j)
    ∗ slotPts c 0 (kept 0) (commOf X c) ∗ wPts c w ∗ outPts X c w D)

variable (w : S2048x64.Idx → Elt F .f32)

theorem step_arrive (c : Dev nD) {A S : Finset (Fin 31)} {D : Finset (Fin 32)} {j : Fin 31} (hA : j ∈ A)
    (hj : ∀ j' ∈ S, j.val % 16 < j'.val % 16) (Q : PUnit → sProp 𝕄) :
    iprop(records X K ∗ levAts L lv ∗ St X w c A S D ∗ (St X w c (A.erase j) S D ∗ onward X c j -∗ Q ⟨⟩)) ⊢ run c (arrive j) Q := by
  unfold St
  rw [peel (Φ := fun j => recvPre c j) hA, Finset.compl_erase, put (Φ := fun j => recvd X c j) (by simpa using hA)]
  iintro ⟨#HR, #Hl, ⟨HO, ⟨Hp, HA⟩, HA', HS, HS', H0, Hw, Ho⟩, HQ⟩
  iapply (run_arrive X K c hj)
  isplitr; · iexact HR
  isplitr; · iexact Hl
  isplitl [HO]; · iexact HO
  isplitl [Hp]; · iexact Hp
  iintro ⟨HO, Hat, Hpay⟩
  ihave Hpay := (recv_split X c j).1 $$ Hpay
  icases Hpay with ⟨Hk, Hon⟩
  iapply HQ
  isplitr [Hon]
  · isplitl [HO]; · iexact HO
    isplitl [HA]; · iexact HA
    isplitl [HA' Hat Hk]
    · isplitr [HA']
      · unfold recvd; isplitl [Hat] <;> iassumption
      · iexact HA'
    isplitl [HS]; · iexact HS
    isplitl [HS']; · iexact HS'
    isplitl [H0]; · iexact H0
    isplitl [Hw] <;> iassumption
  · iexact Hon

theorem step_xfer (c : Dev nD) {A S : Finset (Fin 31)} {D : Finset (Fin 32)} {j : Fin 31} (hS : j ∈ S) (Q : PUnit → sProp 𝕄) :
    iprop(records X K ∗ St X w c A S D ∗ sendPay X c j ∗ (St X w c A (S.erase j) D -∗ Q ⟨⟩)) ⊢ run c (xfer c j) Q := by
  unfold St
  rw [peel (Φ := fun j => sendPre c j) hS, Finset.compl_erase, put (Φ := fun j => sent c j) (by simpa using hS)]
  iintro ⟨#HR, ⟨HO, HA, HA', ⟨Hp, HS⟩, HS', H0, Hw, Ho⟩, Hsrc, HQ⟩
  iapply (run_xfer X K c hS)
  isplitr; · iexact HR
  isplitl [HO]; · iexact HO
  isplitl [Hp]; · iexact Hp
  isplitl [Hsrc]; · iexact Hsrc
  iintro ⟨HO, Hc⟩
  iapply HQ
  isplitl [HO]; · iexact HO
  isplitl [HA]; · iexact HA
  isplitl [HA']; · iexact HA'
  isplitl [HS]; · iexact HS
  isplitl [HS' Hc]
  · isplitl [Hc] <;> iassumption
  isplitl [H0]; · iexact H0
  isplitl [Hw] <;> iassumption

theorem step_mult0 (c : Dev nD) {A S : Finset (Fin 31)} {D : Finset (Fin 32)} (Q : PUnit → sProp 𝕄) :
    iprop(St X w c A S D ∗ (St X w c A S (insert 0 D) -∗ Q ⟨⟩)) ⊢ run c (mult c 0) Q := by
  unfold St
  iintro ⟨⟨HO, HA, HA', HS, HS', H0, Hw, Ho⟩, HQ⟩
  iapply (run_mult X c 0 (kept 0) w D)
  isplitl [H0]; · iexact H0
  isplitl [Hw]; · iexact Hw
  isplitl [Ho]; · iexact Ho
  iintro ⟨H0, Hw, Ho⟩
  iapply HQ
  isplitl [HO]; · iexact HO
  isplitl [HA]; · iexact HA
  isplitl [HA']; · iexact HA'
  isplitl [HS]; · iexact HS
  isplitl [HS']; · iexact HS'
  isplitl [H0]; · iexact H0
  isplitl [Hw] <;> iassumption

theorem step_mult (c : Dev nD) {A S : Finset (Fin 31)} {D : Finset (Fin 32)} {j : Fin 31} (hA : j ∉ A) (Q : PUnit → sProp 𝕄) :
    iprop(St X w c A S D ∗ (St X w c A S (insert (dst j) D) -∗ Q ⟨⟩)) ⊢ run c (mult c (dst j)) Q := by
  unfold St
  rw [peel (Φ := fun j => recvd X c j) (Finset.mem_compl.mpr hA)]
  unfold recvd
  iintro ⟨⟨HO, HA, ⟨⟨Hat, Hk⟩, HA'⟩, HS, HS', H0, Hw, Ho⟩, HQ⟩
  iapply (run_mult X c (dst j) (kept (dst j)) w D)
  isplitl [Hk]; · iexact Hk
  isplitl [Hw]; · iexact Hw
  isplitl [Ho]; · iexact Ho
  iintro ⟨Hk, Hw, Ho⟩
  iapply HQ
  isplitl [HO]; · iexact HO
  isplitl [HA]; · iexact HA
  isplitl [HA' Hat Hk]
  · isplitr [HA']
    · isplitl [Hat] <;> iassumption
    · iexact HA'
  isplitl [HS]; · iexact HS
  isplitl [HS']; · iexact HS'
  isplitl [H0]; · iexact H0
  isplitl [Hw] <;> iassumption

/-! ## The hops -/

/-- Before hop `n + 1`: the transfers still to land, those still to be sent, the slots already multiplied. -/
def toLand (n : ℕ) : Finset (Fin 31) := Finset.univ.filter fun j => n ≤ j.val % 16
def toSend (n : ℕ) : Finset (Fin 31) := Finset.univ.filter fun j => n < j.val % 16
def done (n : ℕ) : Finset (Fin 32) := Finset.univ.filter fun s => s.val = 0 ∨ (s.val - 1) % 16 < n

theorem mem_toLand {n : ℕ} {j : Fin 31} : j ∈ toLand n ↔ n ≤ j.val % 16 := by simp [toLand]
theorem mem_toSend {n : ℕ} {j : Fin 31} : j ∈ toSend n ↔ n < j.val % 16 := by simp [toSend]
theorem mem_done {n : ℕ} {s : Fin 32} : s ∈ done n ↔ s.val = 0 ∨ (s.val - 1) % 16 < n := by simp [done]

theorem toLand_step (n : ℕ) (hn : n < 15) (a b : Fin 31) (ha : a.val = n) (hb : b.val = 16 + n) :
    ((toLand n).erase a).erase b = toLand (n + 1) := by
  ext j
  have := j.isLt
  simp only [Finset.mem_erase, mem_toLand, ne_eq, Fin.ext_iff, ha, hb]
  omega
theorem toSend_step (n : ℕ) (hn : n < 14) (a b : Fin 31) (ha : a.val = 1 + n) (hb : b.val = 17 + n) :
    ((toSend n).erase a).erase b = toSend (n + 1) := by
  ext j
  have := j.isLt
  simp only [Finset.mem_erase, mem_toSend, ne_eq, Fin.ext_iff, ha, hb]
  omega
theorem done_step (n : ℕ) (hn : n < 15) (a b : Fin 31) (ha : a.val = n) (hb : b.val = 16 + n) :
    insert (dst b) (insert (dst a) (done n)) = done (n + 1) := by
  ext s
  have := s.isLt
  have hda : (dst a).val = n + 1 := by rw [← ha]; rfl
  have hdb : (dst b).val = 17 + n := by rw [show (dst b).val = b.val + 1 from rfl, hb]; omega
  simp only [Finset.mem_insert, mem_done, Fin.ext_iff, hda, hdb]
  omega

/-- One hop on which both directions travel. -/
theorem run_hop (c : Dev nD) (r : Fin 14) (Q : PUnit → sProp 𝕄) :
    iprop(iprop(records X K ∗ levAts L lv) ∗ St X w c (toLand r.val) (toSend r.val) (done r.val)
        ∗ (St X w c (toLand (r.val + 1)) (toSend (r.val + 1)) (done (r.val + 1)) -∗ Q ⟨⟩))
      ⊢ run c (hop c r) Q := by
  have hr := r.isLt
  unfold hop
  simp only [recvOnR_eq, recvOnL_eq, passR_eq, passL_eq, gemmR_eq, gemmL_eq, run_seq]
  obtain ⟨a, ea⟩ : ∃ a : Fin 31, a = ⟨r.val, by omega⟩ := ⟨_, rfl⟩
  obtain ⟨b, eb⟩ : ∃ b : Fin 31, b = ⟨16 + r.val, by omega⟩ := ⟨_, rfl⟩
  obtain ⟨a', ea'⟩ : ∃ a' : Fin 31, a' = ⟨1 + r.val, by omega⟩ := ⟨_, rfl⟩
  obtain ⟨b', eb'⟩ : ∃ b' : Fin 31, b' = ⟨17 + r.val, by omega⟩ := ⟨_, rfl⟩
  have ha : a.val = r.val := by rw [ea]
  have hb : b.val = 16 + r.val := by rw [eb]
  have ha' : a'.val = 1 + r.val := by rw [ea']
  have hb' : b'.val = 17 + r.val := by rw [eb']
  rw [← ea, ← eb, ← ea', ← eb', ← toLand_step r.val (by omega) a b ha hb, ← toSend_step r.val hr a' b' ha' hb',
    ← done_step r.val (by omega) a b ha hb]
  have la : a ∈ toLand r.val := mem_toLand.mpr (by omega)
  have lb : b ∈ (toLand r.val).erase a := Finset.mem_erase.mpr ⟨fun h => by rw [h] at hb; omega, mem_toLand.mpr (by omega)⟩
  have sa : a' ∈ toSend r.val := mem_toSend.mpr (by omega)
  have sb : b' ∈ (toSend r.val).erase a' := Finset.mem_erase.mpr ⟨fun h => by rw [h] at hb'; omega, mem_toSend.mpr (by omega)⟩
  have wa : ∀ j ∈ toSend r.val, a.val % 16 < j.val % 16 := fun j hj => by have := mem_toSend.mp hj; omega
  have wb : ∀ j ∈ (toSend r.val).erase a', b.val % 16 < j.val % 16 := fun j hj => by
    have := mem_toSend.mp (Finset.mem_of_mem_erase hj); omega
  have na : a ∉ ((toLand r.val).erase a).erase b := fun h => (Finset.mem_erase.mp (Finset.mem_of_mem_erase h)).1 rfl
  have nb : b ∉ ((toLand r.val).erase a).erase b := fun h => (Finset.mem_erase.mp h).1 rfl
  have oa := onward_eq X c (j := a) (j' := a') (by omega) (by omega)
  have ob := onward_eq X c (j := b) (j' := b') (by omega) (by omega)
  iintro ⟨⟨#HR, #Hl⟩, H, HQ⟩
  iapply (step_arrive X K w c la wa)
  isplitr; · iexact HR
  isplitr; · iexact Hl
  isplitl [H]; · iexact H
  iintro ⟨H, Hon⟩
  ihave Hon := (Entails.of_eq oa) $$ Hon
  iapply (step_xfer X K w c sa)
  isplitr; · iexact HR
  isplitl [H]; · iexact H
  isplitl [Hon]; · iexact Hon
  iintro H
  iapply (step_arrive X K w c lb wb)
  isplitr; · iexact HR
  isplitr; · iexact Hl
  isplitl [H]; · iexact H
  iintro ⟨H, Hon⟩
  ihave Hon := (Entails.of_eq ob) $$ Hon
  iapply (step_xfer X K w c sb)
  isplitr; · iexact HR
  isplitl [H]; · iexact H
  isplitl [Hon]; · iexact Hon
  iintro H
  iapply (step_mult X w c na)
  isplitl [H]; · iexact H
  iintro H
  iapply (step_mult X w c nb)
  isplitl [H]; · iexact H
  iexact HQ

theorem toSend_14 : (toSend 14).erase 15 = ∅ := by decide
theorem toLand_15 : (toLand 15).erase 15 = ∅ := by decide
theorem done_16 : insert (dst 15) (done 15) = Finset.univ := by decide

/-- The fifteenth hop: the last transfer rightwards is sent. -/
theorem run_hop15 (c : Dev nD) (Q : PUnit → sProp 𝕄) :
    iprop(iprop(records X K ∗ levAts L lv) ∗ St X w c (toLand 14) (toSend 14) (done 14) ∗ (St X w c (toLand 15) ∅ (done 15) -∗ Q ⟨⟩))
      ⊢ run c (hop15 c) Q := by
  unfold hop15
  simp only [recvOnR_eq, recvOnL_eq, passR_eq, gemmR_eq, gemmL_eq, run_seq]
  rw [← toLand_step 14 (by omega) 14 30 rfl rfl, ← toSend_14, ← done_step 14 (by omega) 14 30 rfl rfl]
  iintro ⟨⟨#HR, #Hl⟩, H, HQ⟩
  iapply (step_arrive X K w c (A := toLand 14) (S := toSend 14) (j := 14) (by decide) (by decide))
  isplitr; · iexact HR
  isplitr; · iexact Hl
  isplitl [H]; · iexact H
  iintro ⟨H, Hon⟩
  ihave Hon := (Entails.of_eq (onward_eq X c (j := 14) (j' := 15) rfl (by decide))) $$ Hon
  iapply (step_xfer X K w c (S := toSend 14) (j := 15) (by decide))
  isplitr; · iexact HR
  isplitl [H]; · iexact H
  isplitl [Hon]; · iexact Hon
  iintro H
  iapply (step_arrive X K w c (A := (toLand 14).erase 14) (S := (toSend 14).erase 15) (j := 30) (by decide) (by decide))
  isplitr; · iexact HR
  isplitr; · iexact Hl
  isplitl [H]; · iexact H
  iintro ⟨H, -⟩
  iapply (step_mult X w c (A := ((toLand 14).erase 14).erase 30) (j := 14) (by decide))
  isplitl [H]; · iexact H
  iintro H
  iapply (step_mult X w c (A := ((toLand 14).erase 14).erase 30) (j := 30) (by decide))
  isplitl [H]; · iexact H
  iexact HQ

/-- The sixteenth hop: the last transfer lands. -/
theorem run_hop16 (c : Dev nD) (Q : PUnit → sProp 𝕄) :
    iprop(iprop(records X K ∗ levAts L lv) ∗ St X w c (toLand 15) ∅ (done 15) ∗ (St X w c ∅ ∅ Finset.univ -∗ Q ⟨⟩)) ⊢ run c (hop16 c) Q := by
  unfold hop16
  simp only [recvOnR_eq, gemmR_eq, run_seq]
  rw [← toLand_15, ← done_16]
  iintro ⟨⟨#HR, #Hl⟩, H, HQ⟩
  iapply (step_arrive X K w c (A := toLand 15) (S := ∅) (j := 15) (by decide) (fun _ h => absurd h (Finset.notMem_empty _)))
  isplitr; · iexact HR
  isplitr; · iexact Hl
  isplitl [H]; · iexact H
  iintro ⟨H, -⟩
  iapply (step_mult X w c (A := (toLand 15).erase 15) (j := 15) (by decide))
  isplitl [H]; · iexact H
  iexact HQ

/-! ## The drains -/

/-- With the transfers `T` not yet waited for at their source. -/
def Dr (c : Dev nD) (T : Finset (Fin 31)) : sProp 𝕄 :=
  iprop(owing c 0 ∗ (bigSep T fun j => iprop(atPos ER (sendCell c j) 0 ∅ 0 ∗ sent c j))
    ∗ bigSep Tᶜ fun j => iprop(atPos ER (sendCell c j) 1 ∅ 0 ∗ sendPay X c j))

theorem step_drain (c : Dev nD) {T : Finset (Fin 31)} {j : Fin 31} (hT : j ∈ T) (Q : PUnit → sProp 𝕄) :
    iprop(records X K ∗ Dr X c T ∗ (Dr X c (T.erase j) -∗ Q ⟨⟩)) ⊢ run c (drain j) Q := by
  unfold Dr
  rw [peel (Φ := fun j => iprop(atPos ER (sendCell c j) 0 ∅ 0 ∗ sent c j)) hT, Finset.compl_erase,
    put (Φ := fun j => iprop(atPos ER (sendCell c j) 1 ∅ 0 ∗ sendPay X c j)) (by simpa using hT)]
  iintro ⟨#HR, ⟨HO, ⟨Hp, HT⟩, HT'⟩, HQ⟩
  iapply (run_drain X K c j)
  isplitr; · iexact HR
  isplitl [HO]; · iexact HO
  isplitl [Hp]; · iexact Hp
  iintro ⟨HO, Hpost⟩
  iapply HQ
  isplitl [HO]; · iexact HO
  isplitl [HT]; · iexact HT
  isplitl [Hpost] <;> iassumption

/-- The transfers from number `n` on. -/
def fromN (n : ℕ) : Finset (Fin 31) := Finset.univ.filter fun j => n ≤ j.val

theorem fromN_step (j : Fin 31) : (fromN j.val).erase j = fromN (j.val + 1) := by
  ext i
  simp only [fromN, Finset.mem_erase, Finset.mem_filter, Finset.mem_univ, true_and, ne_eq, Fin.ext_iff]
  omega

theorem run_drain_at (c : Dev nD) (j : Fin 31) (Q : PUnit → sProp 𝕄) :
    iprop(records X K ∗ Dr X c (fromN j.val) ∗ (Dr X c (fromN (j.val + 1)) -∗ Q ⟨⟩)) ⊢ run c (drain j) Q := by
  rw [← fromN_step]
  exact step_drain X K c (by simp [fromN]) Q

theorem run_drains (c : Dev nD) (Q : PUnit → sProp 𝕄) :
    iprop(records X K ∗ Dr X c Finset.univ ∗ (Dr X c ∅ -∗ Q ⟨⟩)) ⊢ run c (seqN 16 drainR >>= fun _ => seqN 15 drainL) Q := by
  have h0 : fromN 0 = Finset.univ := by decide
  have h31 : fromN 31 = ∅ := by decide
  rw [run_seq, ← h0, ← h31]
  have hR := run_seqN c (records X K) 16 drainR (fun i => Dr X c (fromN i)) fun i Q => by
    rw [drainR_eq]; exact run_drain_at X K c ⟨i.val, by omega⟩ Q
  have hL := run_seqN c (records X K) 15 drainL (fun i => Dr X c (fromN (16 + i))) fun i Q => by
    rw [drainL_eq]; exact run_drain_at X K c ⟨16 + i.val, by omega⟩ Q
  iintro ⟨#HR, H, HQ⟩
  iapply (hR _)
  isplitr; · iexact HR
  isplitl [H]; · iexact H
  iintro H
  iapply (hL _)
  isplitr; · iexact HR
  isplitl [H]; · iexact H
  iexact HQ

/-! ## The whole body -/

omit [FloatOps F] in
/-- A family over the cells: the barrier's member, the send cells', the receive cells'. -/
theorem bigSep_kinds (Φ : Kd → sProp 𝕄) :
    bigSep Finset.univ Φ
      = iprop(Φ (.inl ()) ∗ (bigSep Finset.univ fun j => Φ (.inr (.inl j))) ∗ bigSep Finset.univ fun j => Φ (.inr (.inr j))) := by
  rw [BI.bigSep_univ_sum, BI.bigSep_univ_sum, Finset.univ_unique, BI.bigSep_singleton]
  rfl

omit [FloatOps F] in
/-- What everyone knows may be used at every member of a family. -/
theorem with_all {I : Type} [DecidableEq I] {s : Finset I} {R : sProp 𝕄} [BI.Persistent R] {Φ Ψ : I → sProp 𝕄}
    (h : ∀ i ∈ s, iprop(R ∗ Φ i) ⊢ Ψ i) : iprop(R ∗ bigSep s Φ) ⊢ bigSep s Ψ :=
  (sep_mono_left (BI.bigSep_of_persistent s R)).trans (by rw [← bigSep_sep']; exact bigSep_mono h)

/-- The positions and the duty tokens device `c` starts with. -/
def linear (c : Dev nD) : sProp 𝕄 :=
  iprop((bigSep Finset.univ fun k : Kd => atPos ER (kcell (c, k)) 0 ∅ 0)
    ∗ dutyTok ER (barCell (prv c)) 0 true ∗ dutyTok ER (barCell (nxt c)) 0 false
    ∗ (bigSep Finset.univ fun j => dutyTok ER (sendCell c j) 0 false) ∗ bigSep Finset.univ fun j => dutyTok ER (recvCell (tgt c j) j) 0 false)

/-- The credit it starts with. -/
def credits (c : Dev nD) : sProp 𝕄 :=
  iprop(cred (tallyAt (barCell c) () 2) ∗ bigSep Finset.univ fun j => cred (tallyAt (recvCell c j) () N))

omit [FloatOps F] in
/-- Every cell of the device closes: its counter is at zero. -/
theorem close_cells (c : Dev nD) :
    iprop(records X K ∗ bigSep Finset.univ fun k : Kd => atPos ER (kcell (c, k)) 1 ∅ 0)
      ⊢ (|={Set.univ}=> bigSep Finset.univ fun k : Kd => semVal (kcell (c, k)) 0 : sProp 𝕄) := by
  have h : ∀ k ∈ (Finset.univ : Finset Kd), iprop(records X K ∗ atPos ER (kcell (c, k)) 1 ∅ 0)
      ⊢ iprop(cellInv ER (ringRd X) (K (c, k)) (kcell (c, k)) ∗ atPos ER (kcell (c, k)) 1 ∅ 0) := fun k _ => by
    iintro ⟨H, Hat⟩
    isplitr [Hat]
    · iapply (inv_at X K (c, k)); iexact H
    · iexact Hat
  exact (with_all h).trans (Rounds.cells_close ER (ringRd X) Finset.univ (fun k => kcell (c, k)) (fun k => K (c, k))
    (fun _ _ => Set.mem_univ _) (fun _ _ h => h) (fun _ => 1) fun k _ => duties_later X (kcell (c, k)))

theorem toSend_0 : (Finset.univ.erase 0).erase 16 = toSend 0 := by decide
theorem toLand_0 : (Finset.univ : Finset (Fin 31)) = toLand 0 := by decide
theorem done_0 : insert 0 ∅ = done 0 := by decide

/-- What the handshake leaves is the state in which nothing has been sent. -/
theorem St_intro (c : Dev nD) (g : S2048x64.Idx → Elt F .f32) :
    iprop(owing c (owe c Finset.univ) ∗ (bigSep Finset.univ fun j => atPos ER (recvCell c j) 0 ∅ 0)
        ∗ (bigSep Finset.univ fun j => cred (tallyAt (recvCell c j) () N))
        ∗ (bigSep Finset.univ fun j => dutyTok ER (sendCell c j) 0 false) ∗ (bigSep Finset.univ fun j => dutyTok ER (recvCell (tgt c j) j) 0 false)
        ∗ (bigSep Finset.univ fun j => iprop(∃ f : S32x64x2048.Idx → Elt F .f32, slotPts (tgt c j) (dst j) fullShare f))
        ∗ slotPts c 0 (kept 0) (commOf X c) ∗ wPts c w ∗ oPts c g)
      ⊢ St X w c Finset.univ Finset.univ ∅ := by
  unfold St
  rw [Finset.compl_univ, BI.bigSep_empty, BI.bigSep_empty]
  have hr : (bigSep Finset.univ fun j => recvPre (F := F) c j)
      = iprop((bigSep Finset.univ fun j => atPos ER (recvCell c j) 0 ∅ 0) ∗ bigSep Finset.univ fun j => cred (tallyAt (recvCell c j) () N)) := by
    unfold recvPre; rw [bigSep_sep']
  have hs : (bigSep Finset.univ fun j => sendPre (F := F) c j)
      = iprop((bigSep Finset.univ fun j => dutyTok ER (sendCell c j) 0 false) ∗ (bigSep Finset.univ fun j => dutyTok ER (recvCell (tgt c j) j) 0 false)
        ∗ bigSep Finset.univ fun j => iprop(∃ f : S32x64x2048.Idx → Elt F .f32, slotPts (tgt c j) (dst j) fullShare f)) := by
    unfold sendPre; rw [bigSep_sep', bigSep_sep']
  rw [hr, hs]
  unfold outPts
  iintro ⟨HO, Ha, Hc, Ht, Ht', Hd, H0, Hw, Ho⟩
  isplitl [HO]; · iexact HO
  isplitl [Ha Hc]
  · isplitl [Ha] <;> iassumption
  isplitr; · iempintro
  isplitl [Ht Ht' Hd]
  · isplitl [Ht]; · iexact Ht
    isplitl [Ht'] <;> iassumption
  isplitr; · iempintro
  isplitl [H0]; · iexact H0
  isplitl [Hw]; · iexact Hw
  iexists g
  isplitr; · ipureintro; exact Good.empty X w c g
  iexact Ho

/-- What the body starts from and what it ends with. -/
def progPre (c : Dev nD) (f : S32x64x2048.Idx → Elt F .f32) (g : S2048x64.Idx → Elt F .f32) : sProp 𝕄 :=
  iprop(linear c ∗ credits c ∗ owing c (O₀ c) ∗ (((c : Thread nD τ).loc cc0_stg0_0) ↦{fullShare} X c) ∗ wPts c w ∗ oPts c g
    ∗ ((c : Thread nD τ).loc cc0_scratch0) ↦{fullShare} f)
def progPost (c : Dev nD) : sProp 𝕄 :=
  iprop(owing c 0 ∗ (((c : Thread nD τ).loc cc0_stg0_0) ↦{fullShare} X c) ∗ wPts c w ∗ oPts c (outOf X w)
    ∗ (((c : Thread nD τ).loc cc0_scratch0) ↦{fullShare} commOf X c) ∗ bigSep Finset.univ fun k : Kd => semVal (kcell (c, k)) 0)

omit [FloatOps F] in
theorem Dr_intro (c : Dev nD) :
    iprop(owing c 0 ∗ (bigSep Finset.univ fun j => atPos ER (sendCell c j) 0 ∅ 0) ∗ bigSep Finset.univ fun j => sent c j) ⊢ Dr X c Finset.univ := by
  unfold Dr
  rw [Finset.compl_univ, BI.bigSep_empty, bigSep_sep']
  iintro ⟨HO, Ha, Hs⟩
  isplitl [HO]; · iexact HO
  isplitl [Ha Hs]
  · isplitl [Ha]; · iexact Ha
    iexact Hs
  iempintro

/-- After the last drain everything is back. -/
theorem finish (c : Dev nD) :
    iprop(records X K ∗ Dr X c ∅ ∗ atPos ER (barCell c) 1 ∅ 0 ∗ (bigSep Finset.univ fun j => recvd X c j)
        ∗ slotPts c 0 (kept 0) (commOf X c))
      ⊢ (|={Set.univ}=> iprop(owing c 0 ∗ (((c : Thread nD τ).loc cc0_scratch0) ↦{fullShare} commOf X c)
          ∗ bigSep Finset.univ fun k : Kd => semVal (kcell (c, k)) 0) : sProp 𝕄) := by
  unfold Dr recvd
  rw [Finset.compl_empty, BI.bigSep_empty, bigSep_sep', bigSep_sep']
  iintro ⟨#HR, ⟨HO, -, HaS, Hs⟩, HaB, ⟨HaV, Hk⟩, H0⟩
  imod (close_cells X K c) $$ [HaS HaB HaV] with Hz
  · isplitr; · iexact HR
    iapply (Entails.of_eq (bigSep_kinds (F := F) fun k => atPos ER (kcell (c, k)) 1 ∅ 0).symm)
    isplitl [HaB]; · iexact HaB
    isplitl [HaS]; · iexact HaS
    iexact HaV
  imodintro
  isplitl [HO]; · iexact HO
  isplitl [H0 Hk Hs]
  · iapply (buffer_back X c)
    isplitl [H0]; · iexact H0
    isplitl [Hk] <;> iassumption
  iexact Hz

/-- Asking for the device's number. -/
theorem run_device (c : Dev nD) (k : Dev nD → Prog (Eff F) PUnit) (Q : PUnit → sProp 𝕄) :
    run c (do let d ← Prog.lift .deviceId; k d) Q = run c (k c) Q := by
  simp only [Prog.lift, Prog.bind_op, Prog.bind_ret, wp_deviceId]

/-- An update after the last operation. -/
theorem run_fupd (c : Dev nD) (p : Prog (Eff F) PUnit) (Q : PUnit → sProp 𝕄) :
    run c p (fun a => iprop(|={Set.univ}=> Q a)) ⊢ run c p Q := wp_fupd _ _ _ p Q

/-- The body of device `c`. -/
theorem run_prog (c : Dev nD) (f : S32x64x2048.Idx → Elt F .f32) (g : S2048x64.Idx → Elt F .f32) (Q : PUnit → sProp 𝕄) :
    iprop(records X K ∗ levAts L lv ∗ progPre X w c f g ∗ (progPost X w c -∗ Q ⟨⟩)) ⊢ run c prog Q := by
  have hH := run_seqN c iprop(records X K ∗ levAts L lv) 14 (hop c) (fun i => St X w c (toLand i) (toSend i) (done i))
    fun i Q => run_hop X K w c i Q
  suffices h : iprop(records X K ∗ levAts L lv ∗ progPre X w c f g ∗ (progPost X w c -∗ Q ⟨⟩))
      ⊢ run c prog fun a => iprop(|={Set.univ}=> Q a) from h.trans (run_fupd c prog Q)
  unfold prog progPre linear credits
  rw [run_device, launchR_eq, launchL_eq, mult_zero, bigSep_kinds]
  iintro ⟨#HR, #Hl, ⟨⟨⟨HaB, HaS, HaV⟩, HtP, HtN, HtS, HtV⟩, ⟨HcB, HcV⟩, HO, Hx, Hw, Ho, Hbuf⟩, HQ⟩
  ihave Hbuf := (buffer_lend c f) $$ Hbuf
  icases Hbuf with ⟨H0, Ht, Hf⟩
  rw [run_seq]
  iapply (run_handshake X K c)
  isplitr; · iexact HR
  isplitr; · iexact Hl
  isplitl [HO]; · iexact HO
  isplitl [HaB HcB HtP HtN Ht Hf]
  · unfold shakePre
    isplitl [HaB]; · iexact HaB
    isplitl [HcB]; · iexact HcB
    isplitl [HtP]; · iexact HtP
    isplitl [HtN]; · iexact HtN
    isplitl [Ht] <;> iassumption
  iintro ⟨HO, HaB, Hd⟩
  rw [run_seq]
  iapply (run_fill X c f)
  isplitl [Hx]; · iexact Hx
  isplitl [H0]; · iexact H0
  iintro ⟨Hx, H0⟩
  ihave H0 := (slot0_split X c).1 $$ H0
  icases H0 with ⟨H0, Ha, Hb⟩
  ihave H := (St_intro X w c g) $$ [HO HaV HcV HtS HtV Hd H0 Hw Ho]
  · isplitl [HO]; · iexact HO
    isplitl [HaV]; · iexact HaV
    isplitl [HcV]; · iexact HcV
    isplitl [HtS]; · iexact HtS
    isplitl [HtV]; · iexact HtV
    isplitl [Hd]; · iexact Hd
    isplitl [H0]; · iexact H0
    isplitl [Hw] <;> iassumption
  rw [run_seq]
  iapply (step_xfer X K w c (Finset.mem_univ 0))
  isplitr; · iexact HR
  isplitl [H]; · iexact H
  isplitl [Ha]; · iexact Ha
  iintro H
  rw [run_seq]
  iapply (step_xfer X K w c (S := Finset.univ.erase 0) (j := 16) (by decide))
  isplitr; · iexact HR
  isplitl [H]; · iexact H
  isplitl [Hb]; · iexact Hb
  iintro H
  rw [run_seq]
  iapply (step_mult0 X w c)
  isplitl [H]; · iexact H
  iintro H
  ihave H := (Entails.of_eq (by rw [toSend_0, done_0, toLand_0] :
    St X w c Finset.univ ((Finset.univ.erase 0).erase 16) (insert 0 ∅) = St X w c (toLand 0) (toSend 0) (done 0))) $$ H
  rw [run_seq]
  iapply (hH _)
  isplitr
  · isplitr; · iexact HR
    iexact Hl
  isplitl [H]; · iexact H
  iintro H
  rw [run_seq]
  iapply (run_hop15 X K w c)
  isplitr
  · isplitr; · iexact HR
    iexact Hl
  isplitl [H]; · iexact H
  iintro H
  rw [run_seq]
  iapply (run_hop16 X K w c)
  isplitr
  · isplitr; · iexact HR
    iexact Hl
  isplitl [H]; · iexact H
  iintro H
  unfold St
  rw [Finset.compl_empty, owe_empty]
  icases H with ⟨HO, -, Hrecvd, -, Hsent, H0, Hw, Ho⟩
  iapply (run_drains X K c)
  isplitr; · iexact HR
  isplitl [HO HaS Hsent]
  · iapply (Dr_intro X c)
    isplitl [HO]; · iexact HO
    isplitl [HaS]; · iexact HaS
    iexact Hsent
  iintro H
  unfold outPts
  icases Ho with ⟨%g', %hg, Ho⟩
  have hg' := Good.all hg
  subst hg'
  imod (finish X K c) $$ [H HaB Hrecvd H0] with ⟨HO, Hbuf, Hz⟩
  · isplitr; · iexact HR
    isplitl [H]; · iexact H
    isplitl [HaB]; · iexact HaB
    isplitl [Hrecvd] <;> iassumption
  imodintro
  iapply HQ
  unfold progPost
  isplitl [HO]; · iexact HO
  isplitl [Hx]; · iexact Hx
  isplitl [Hw]; · iexact Hw
  isplitl [Ho]; · iexact Ho
  isplitl [Hbuf] <;> iassumption

end Cert.Ring

end
-- ==== Proof.Deal.lean ====
/-
What the launch hands each device. The cells of all devices are opened under one update, since neighbours share them; the
tokens with which the cells are paid are minted beside the cells and then dealt to the devices that pay.
-/
module

public import proofs.«01_k».proof.Proof.Body
public import Idealize.ShloMosaic.Lib.Pipeline.Launch

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S64x2048.Idx → Elt F .f32)

/-! ## The cells and the tokens -/

/-- The kernel's own semaphores that are cells: the send cells' and the receive cells'. -/
abbrev osem : Fin 31 ⊕ Fin 31 → SemLoc sig := fun k => csem (.inr k)

theorem ownSemFacts : Pipeline.OwnSemFacts cfg0.spec osem where
  isScoped k := by rcases k with j | j <;> (revert j; decide)
  inj k k' h := Sum.inr_injective (csem_injective h)
  disj k := by rcases k with j | j <;> (revert j; decide)

def ringCells : Finset (GSem nD τ sig) := Finset.univ.map ⟨kcell, kcell_injective⟩

/-- The duties of a device's own cells: its barrier's two, one of each send cell, one of each receive cell. -/
abbrev Tk : Type := Bool ⊕ Fin 31 ⊕ Fin 31

def tokKind : Tk → Kd
  | .inl _ => .inl ()
  | .inr k => .inr k
def tokDuty : Tk → Bool
  | .inl d => d
  | .inr _ => false

abbrev tokOf (ct : Dev nD × Tk) : GSem nD τ sig × ℕ × Bool := (kcell (ct.1, tokKind ct.2), 0, tokDuty ct.2)

theorem tokOf_injective : Function.Injective tokOf := by
  rintro ⟨c, t⟩ ⟨c', t'⟩ h
  have h1 := kcell_injective (congrArg Prod.fst h)
  have h2 : tokDuty t = tokDuty t' := congrArg (fun x : GSem nD τ sig × ℕ × Bool => x.2.2) h
  have hc : c = c' := congrArg Prod.fst h1
  have hk : tokKind t = tokKind t' := congrArg Prod.snd h1
  subst hc
  rcases t with d | k <;> rcases t' with d' | k'
  · have : d = d' := h2
    rw [this]
  · cases hk
  · cases hk
  · have : k = k' := Sum.inr_injective hk
    rw [this]

def ringToks : Finset (GSem nD τ sig × ℕ × Bool) := Finset.univ.map ⟨tokOf, tokOf_injective⟩

/-- The launch's ghost element: the pipeline's cells and the ring's. -/
def u₀ : UU :=
  (initOf (Pipeline.cells cfgs cellOf_inj) (Pipeline.launchToks cfgs cellOf_inj), initOf ringCells ringToks)

/-- The tokens of device `c`'s own cells. -/
def toks (c : Dev nD) : sProp 𝕄 :=
  iprop((dutyTok ER (barCell c) 0 false ∗ dutyTok ER (barCell c) 0 true)
    ∗ (bigSep Finset.univ fun j => dutyTok ER (sendCell c j) 0 false) ∗ bigSep Finset.univ fun j => dutyTok ER (recvCell c j) 0 false)

/-- The tokens device `c` pays with. -/
def payToks (c : Dev nD) : sProp 𝕄 :=
  iprop(dutyTok ER (barCell (prv c)) 0 true ∗ dutyTok ER (barCell (nxt c)) 0 false
    ∗ (bigSep Finset.univ fun j => dutyTok ER (sendCell c j) 0 false) ∗ bigSep Finset.univ fun j => dutyTok ER (recvCell (tgt c j) j) 0 false)

/-- What the launch's ghost element deals device `c`, -/
def G (c : Dev nD) : sProp 𝕄 :=
  iprop((bigSep Finset.univ fun k : Kd => roundState ER (ringRd X) (kcell (c, k)) 0)
    ∗ (bigSep Finset.univ fun k : Kd => iprop(atPos ER (kcell (c, k)) 0 ∅ 0 ∗ reached ER (kcell (c, k)) 0)) ∗ toks c)

/-- and what it has once the cells are open. -/
def G' (c : Dev nD) : sProp 𝕄 := iprop(∃ K, records X K ∗ linear c)

omit [FloatOps F] in
theorem bigSep_cells (Φ : GSem nD τ sig → sProp 𝕄) :
    bigSep ringCells Φ = bigSep Finset.univ fun c : Dev nD => bigSep Finset.univ fun k : Kd => Φ (kcell (c, k)) := by
  unfold ringCells; rw [bigSep_map, bigSep_univ_prod]; rfl

omit [FloatOps F] in
theorem bigSep_toks :
    bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  unfold toks
  rw [BI.bigSep_univ_sum, BI.bigSep_univ_sum, bigSep_univ_eq_bigSepL [false, true] (by decide) (by decide)]
  rfl

omit [FloatOps F] in
/-- The ring's half of the ghost element, dealt out. -/
theorem fund_ring : BI.own (ER (initOf ringCells ringToks)) ⊢ (|==> bigSep Finset.univ (G X) : sProp 𝕄) := by
  iintro HX
  imod (Rounds.fund ER (ringRd X) ringCells ringToks) $$ HX with ⟨Hst, Hr, Hat, Htok⟩
  imodintro
  ihave Hst := (Entails.of_eq (bigSep_cells fun g => roundState ER (ringRd X) g 0)) $$ Hst
  ihave Hat := (Entails.of_eq (bigSep_cells (F := F) fun g => atPos ER g 0 ∅ 0)) $$ Hat
  ihave Hr := (Entails.of_eq (bigSep_cells (F := F) fun g => reached ER g 0)) $$ Hr
  ihave Htok := (Entails.of_eq (bigSep_toks (F := F))) $$ Htok
  unfold G
  simp only [bigSep_sep']
  isplitl [Hst]; · iexact Hst
  isplitl [Hat Hr]
  · isplitl [Hat]; · iexact Hat
    iexact Hr
  iexact Htok

omit [FloatOps F] in
/-- The barrier's counter is the launch's one semaphore that is not the kernel's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The counters of a device's cells: the barrier's, and the kernel's own. -/
theorem sems0_eq (c : Dev nD) :
    (bigSep Finset.univ fun k : Kd => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, BI.bigSep_univ_sum, Finset.univ_unique, BI.bigSep_singleton]
  rfl

omit [FloatOps F] in
/-- The cells of one device opened. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (ringRd X) κ (kcell (c, k))))
          ∗ (bigSep Finset.univ fun k => iprop(atPos ER (kcell (c, k)) 0 ∅ 0 ∗ reached ER (kcell (c, k)) 0)) ∗ toks c) := by
  have h : iprop((bigSep Finset.univ fun k : Kd => semVal (kcell (c, k)) 0) ∗ bigSep Finset.univ fun k : Kd => roundState ER (ringRd X) (kcell (c, k)) 0)
      ⊢ (|={Set.univ}=> bigSep Finset.univ fun k => iprop(∃ κ : ℕ, cellInv ER (ringRd X) κ (kcell (c, k))) : sProp 𝕄) := by
    rw [← bigSep_sep']
    exact (bigSep_mono fun k _ => (Rounds.body_intro ER (ringRd X) (kcell (c, k))).trans inv_alloc).trans (bigSep_fupd _ _)
  rw [sems0_eq] at h
  unfold G
  iintro ⟨Hos, Hus, Hst, Hat, Htok⟩
  imod h $$ [Hos Hus Hst] with Hinv
  · isplitl [Hos Hus]
    · isplitl [Hus] <;> iassumption
    iexact Hst
  imodintro
  isplitl [Hinv]; · iexact Hinv
  isplitl [Hat]; · iexact Hat
  iexact Htok

/-- Every transfer, from the device that receives it to the device that sends it. -/
def dealt : Dev nD × Fin 31 ≃ Dev nD × Fin 31 where
  toFun p := (tgt p.1 p.2, p.2)
  invFun p := (frm p.1 p.2, p.2)
  left_inv p := by simp only [frm_tgt]
  right_inv p := by simp only [tgt_frm]

omit [FloatOps F] in
/-- The tokens dealt around the ring. -/
theorem toks_around : (bigSep Finset.univ fun c : Dev nD => (toks c : sProp 𝕄)) ⊢ bigSep Finset.univ fun c : Dev nD => payToks c := by
  have hr : (bigSep Finset.univ fun c : Dev nD => bigSep Finset.univ fun j : Fin 31 => (dutyTok ER (recvCell c j) 0 false : sProp 𝕄))
      = bigSep Finset.univ fun c : Dev nD => bigSep Finset.univ fun j : Fin 31 => dutyTok ER (recvCell (tgt c j) j) 0 false := by
    rw [← bigSep_univ_prod (fun p : Dev nD × Fin 31 => (dutyTok ER (recvCell p.1 p.2) 0 false : sProp 𝕄)), bigSep_univ_equiv dealt, bigSep_univ_prod]
    rfl
  unfold toks payToks
  rw [bigSep_sep', bigSep_sep', bigSep_sep', bigSep_sep', bigSep_sep', bigSep_sep', hr,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H2]; · iexact H2
  isplitl [H1]; · iexact H1
  isplitl [H3]; · iexact H3
  iexact H4

omit [FloatOps F] in
/-- With every cell open, every device knows all of them and holds its positions and its tokens. -/
theorem regroup :
    (bigSep Finset.univ fun c : Dev nD => iprop((bigSep Finset.univ fun k => iprop(∃ κ : ℕ, cellInv ER (ringRd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Kd => iprop(∃ κ : ℕ, cellInv ER (ringRd X) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (ringRd X) κ (kcell ck) : sProp 𝕄))) $$ HI
  icases HK with ⟨%K, #HI⟩
  ihave Htok := (toks_around (F := F)) $$ Htok
  have hG : ∀ c ∈ (Finset.univ : Finset (Dev nD)),
      iprop(records X K ∗ ((bigSep Finset.univ fun k : Kd => atPos ER (kcell (c, k)) 0 ∅ 0) ∗ payToks c)) ⊢ G' X c := fun c _ => by
    unfold G' linear payToks
    iintro ⟨HR, Hl⟩
    iexists K
    isplitl [HR]; · iexact HR
    iexact Hl
  iapply (with_all hG)
  isplitr
  · unfold records
    isplitr; · iexact HI
    iexact HR
  · rw [bigSep_sep']
    isplitl [Hat]; · iexact Hat
    iexact Htok

omit [FloatOps F] in
/-- The cells of all devices opened at once. -/
theorem glob : (bigSep Finset.univ fun c => iprop(Pipeline.ownSems0 (Ix := Unit) (Name := ℕ) (U := UU) (Lvl := ℕ) (Val := Elt F) (τ := τ) osem c
      ∗ unscopedSems0 c ∗ G X c) : sProp 𝕄) ⊢ |={Set.univ}=> bigSep Finset.univ (G' X) :=
  ((bigSep_mono fun c _ => core_alloc X c).trans (bigSep_fupd _ _)).trans (BI.fupd_mono (regroup X))

/-! ## The launch credit -/

theorem kcell_eq_iff {c c' : Dev nD} {k k' : Kd} : kcell (c, k) = kcell (c', k') ↔ c = c' ∧ k = k' := by
  rw [kcell_injective.eq_iff, Prod.mk.injEq]

/-- A tally at a cell, read at a cell. -/
theorem tally_kcell (c c' : Dev nD) (k k' : Kd) (n : ℕ) : tallyAt (kcell (c', k')) () n (kcell (c, k)) () = if c = c' ∧ k = k' then n else 0 := by
  rw [tallyAt_apply]
  simp only [kcell_eq_iff, and_true]

theorem owe_apply (c : Dev nD) (S : Finset (Fin 31)) (g : GSem nD τ sig) (u : Unit) :
    owe c S g u = ∑ j ∈ S, tallyAt (recvCell (tgt c j) j) () N g u := by
  unfold owe; rw [Finset.sum_apply, Finsupp.finset_sum_apply]

/-- What device `d` owes device `c`'s barrier. -/
theorem owed_bar (d c : Dev nD) : O₀ d (barCell c) () = (if d = prv c then 1 else 0) + if d = nxt c then 1 else 0 := by
  unfold O₀ O₁
  have h0 : owe d Finset.univ (barCell c) () = 0 := by
    rw [owe_apply]
    exact Finset.sum_eq_zero fun j _ => (tally_kcell c _ (.inl ()) (.inr (.inr j)) N).trans (if_neg fun h => by cases h.2)
  have h1 := tally_kcell c (nxt d) (.inl ()) (.inl ()) 1
  have h2 := tally_kcell c (prv d) (.inl ()) (.inl ()) 1
  rw [Pi.add_apply, Finsupp.add_apply, Pi.add_apply, Finsupp.add_apply, h0, Nat.zero_add]
  refine congrArg₂ (· + ·) (h1.trans (if_congr ?_ rfl rfl)) (h2.trans (if_congr ?_ rfl rfl))
  · exact ⟨fun h => by rw [h.1, prv_nxt], fun h => by rw [h, nxt_prv]; exact ⟨rfl, rfl⟩⟩
  · exact ⟨fun h => by rw [h.1, nxt_prv], fun h => by rw [h, prv_nxt]; exact ⟨rfl, rfl⟩⟩

/-- What device `d` owes the cell of the transfer `j` that lands on device `c`. -/
theorem owed_recv (d c : Dev nD) (j : Fin 31) : O₀ d (recvCell c j) () = if d = frm c j then N else 0 := by
  unfold O₀ O₁
  have h0 : owe d Finset.univ (recvCell c j) () = if d = frm c j then N else 0 := by
    rw [owe_apply, Finset.sum_eq_single j]
    · exact (tally_kcell c (tgt d j) (.inr (.inr j)) (.inr (.inr j)) N).trans (if_congr
        ⟨fun h => by rw [h.1, frm_tgt], fun h => by rw [h, tgt_frm]; exact ⟨rfl, rfl⟩⟩ rfl rfl)
    · exact fun j' _ hj => (tally_kcell c _ (.inr (.inr j)) (.inr (.inr j')) N).trans
        (if_neg fun h => hj (Sum.inr_injective (Sum.inr_injective h.2)).symm)
    · exact fun h => absurd (Finset.mem_univ j) h
  have h1 := (tally_kcell c (nxt d) (.inr (.inr j)) (.inl ()) 1).trans (if_neg fun h => by cases h.2)
  have h2 := (tally_kcell c (prv d) (.inr (.inr j)) (.inl ()) 1).trans (if_neg fun h => by cases h.2)
  rw [Pi.add_apply, Finsupp.add_apply, Pi.add_apply, Finsupp.add_apply, h0, Nat.add_assoc]
  exact (congrArg _ (congrArg₂ (· + ·) h1 h2)).trans (Nat.add_zero _)

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq', Finset.sum_ite_eq', if_pos (Finset.mem_univ _), if_pos (Finset.mem_univ _)]

theorem launch_recv (c : Dev nD) (j : Fin 31) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq', if_pos (Finset.mem_univ _)]

omit [FloatOps F] in
/-- The launch's credit has what the body waits for. -/
theorem creds (c : Dev nD) : (Pipeline.launchCred O₀ c : sProp 𝕄) ⊢ credits c := by
  have hs : (Pipeline.launchCred O₀ c : sProp 𝕄)
      ⊢ bigSep Finset.univ fun k : Kd => cred (tallyOn (kcell (c, k)) (launchCredit (Pipeline.owing O₀) 0 (kcell (c, k)))) := by
    unfold Pipeline.launchCred
    refine (BI.bigSep_subset (Finset.subset_univ (Finset.univ.map ⟨csem, csem_injective⟩))).trans ?_
    rw [bigSep_map]
    exact BI.Entails.refl _
  have hv : (bigSep Finset.univ fun j : Fin 31 => (cred (tallyOn (recvCell c j) (launchCredit (Pipeline.owing O₀) 0 (recvCell c j))) : sProp 𝕄))
      = bigSep Finset.univ fun j => cred (tallyAt (recvCell c j) () N) := bigSep_congr fun j _ => by rw [launch_recv]
  rw [bigSep_kinds] at hs
  unfold credits
  rw [← hv, ← launch_bar]
  iintro H
  ihave H := hs $$ H
  icases H with ⟨HB, -, HV⟩
  isplitl [HB]; · iexact HB
  iexact HV

end Cert.Ring

end
-- ==== Proof.Run.lean ====
/-
The run of the whole program: what each device's launch stages and holds, the body at the launch's one point, and what every
weakly fair execution ends in.
-/
module

public import proofs.«01_k».proof.Proof.Deal
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero. -/
def start₀ : MemSt nD τ sig (Elt F) := ⟨m, fun _ => 0, ρ⟩

/-- The rows of `x` staged on a device, -/
def xs (c : Dev nD) : S64x2048.Idx → Elt F .f32 :=
  (win0_0.blk (0 : Fin 1)).view.read (Elt F) ((start₀ m ρ).mem ((c : Thread nD τ).loc main_arg0))

/-- and the columns of the weights. -/
def ws (c : Dev nD) : S2048x64.Idx → Elt F .f32 :=
  (win0_1.blk (0 : Fin 1)).view.read (Elt F) ((start₀ m ρ).mem ((c : Thread nD τ).loc main_arg1))

/-- What a device's body starts from, -/
def start (c : Dev nD) : sProp 𝕄 := iprop(G' (xs m ρ) c ∗ credits c ∗ levAts L lv)

def Φ₀ (c : Dev nD) : sProp 𝕄 :=
  iprop(start m ρ c ∗ ∃ f : S32x64x2048.Idx → Elt F .f32, ((c : Thread nD τ).loc cc0_scratch0) ↦{fullShare} f)

/-- and what it leaves. -/
def Φ₁ (c : Dev nD) : sProp 𝕄 :=
  iprop((((c : Thread nD τ).loc cc0_scratch0) ↦{fullShare} commOf (xs m ρ) c) ∗ bigSep Finset.univ fun k : Kd => semVal (kcell (c, k)) 0)

/-- The launch on device `c`: its arrays, what the body leaves in the staging buffers, what it owes. -/
def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xs m ρ c
    | ⟨1, _⟩ => ws m ρ c
    | ⟨2, _⟩ => outOf (xs m ρ) (ws m ρ c)
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_x (t : Fin cfg0.N) : (cfg0.win (0 : Fin 3)).fetch t = true := by rw [fin_N0 t]; rfl
theorem fetch_w (t : Fin cfg0.N) : (cfg0.win (1 : Fin 3)).fetch t = true := by rw [fin_N0 t]; rfl

def bodyPre (c : Dev nD) : sProp 𝕄 :=
  iprop(Φ₀ m ρ c ∗ (dats m ρ 0 c).owesAt () t0_0.castSucc
    ∗ (∃ d, ((c : Thread nD τ).loc cc0_stg0_0) ↦{fullShare} (dats m ρ 0 c).before (0 : Fin 3) t0_0 d)
    ∗ (∃ d, ((c : Thread nD τ).loc cc0_stg1_0) ↦{fullShare} (dats m ρ 0 c).before (1 : Fin 3) t0_0 d)
    ∗ (∃ d, ((c : Thread nD τ).loc cc0_stg2_0) ↦{fullShare} (dats m ρ 0 c).before (2 : Fin 3) t0_0 d))

def bodyPost (c : Dev nD) : sProp 𝕄 :=
  iprop(Φ₁ m ρ c ∗ (dats m ρ 0 c).owesAt () t0_0.succ
    ∗ (((c : Thread nD τ).loc cc0_stg0_0) ↦{fullShare} xs m ρ c)
    ∗ (((c : Thread nD τ).loc cc0_stg1_0) ↦{fullShare} ws m ρ c)
    ∗ (((c : Thread nD τ).loc cc0_stg2_0) ↦{fullShare} outOf (xs m ρ) (ws m ρ c)))

theorem before_x (c : Dev nD) (d) : (dats m ρ 0 c).before (0 : Fin 3) t0_0 d = xs m ρ c := by
  unfold Dat.before; rw [if_pos (fetch_x t0_0)]; rfl
theorem before_w (c : Dev nD) (d) : (dats m ρ 0 c).before (1 : Fin 3) t0_0 d = ws m ρ c := by
  unfold Dat.before; rw [if_pos (fetch_w t0_0)]; rfl

/-- The body of device `c`, from what the launch hands it to what the launch takes back. -/
theorem sound (c : Dev nD) : bodyPre m ρ c ⊢ run c prog fun _ => bodyPost m ρ c := by
  unfold bodyPre Φ₀ start G'
  iintro ⟨⟨⟨⟨%K, #HR, Hlin⟩, Hcr, #Hlev⟩, ⟨%f, Hbuf⟩⟩, HO, ⟨%d, Hx⟩, ⟨%e, Hw⟩, ⟨%g, Ho⟩⟩
  ihave Hx := (Entails.of_eq (congrArg (fun Y : S64x2048.Idx → Elt F .f32 => (((c : Thread nD τ).loc cc0_stg0_0) ↦{fullShare} Y : sProp 𝕄)) (before_x m ρ c d))) $$ Hx
  ihave Hw := (Entails.of_eq (congrArg (fun Y : S2048x64.Idx → Elt F .f32 => (((c : Thread nD τ).loc cc0_stg1_0) ↦{fullShare} Y : sProp 𝕄)) (before_w m ρ c e))) $$ Hw
  unfold Dat.owesAt Pipeline.owesWithin
  icases HO with ⟨%W, %hW, HO⟩
  iapply (run_prog (xs m ρ) K (ws m ρ c) c f ((dats m ρ 0 c).before (2 : Fin 3) t0_0 g) fun _ => bodyPost m ρ c)
  isplitr; · iexact HR
  isplitr; · iexact Hlev
  isplitl
  · unfold progPre
    isplitl [Hlin]; · iexact Hlin
    isplitl [Hcr]; · iexact Hcr
    isplitl [HO]
    · unfold owing
      iexists W
      iexact HO
    isplitl [Hx]; · iexact Hx
    isplitl [Hw]; · unfold wPts; iexact Hw
    isplitl [Ho]; · unfold oPts; iexact Ho
    iexact Hbuf
  unfold progPost bodyPost Φ₁ owing wPts oPts Dat.owesAt Pipeline.owesWithin
  iintro ⟨⟨%W', HO⟩, Hx, Hw, Ho, Hbuf, Hz⟩
  isplitl [Hbuf Hz]
  · isplitl [Hbuf] <;> iassumption
  isplitl [HO]
  · iexists W'
    isplitr; · ipureintro; exact fun _ _ => Or.inl trivial
    iexact HO
  isplitl [Hx]; · iexact Hx
  isplitl [Hw] <;> iassumption

set_option maxRecDepth 100000 in
/-- The launch's obligation about the body. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole]
  show bodyPre m ρ c ⊢ run c (cc0_body (F := F) xM (Memref.isWhole_whole _) wM (Memref.isWhole_whole _) oM (Memref.isWhole_whole _)
    cM (Memref.isWhole_whole _) cc0_scratch1 cc0_scratch2 cc0_scratch3 cc0_scratch4) fun _ => bodyPost m ρ c
  rw [body_eq]
  exact sound m ρ c

/-! ## The launch's side conditions -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems0_eq]
  iintro ⟨Hr, Hu, Ho⟩
  isplitl [Hu]; · iexact Hu
  isplitl [Ho]; · iexact Ho
  iexists (commOf (xs m ρ) c)
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents an array ends with. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution of the program on the thirty-two devices ends, with each
    device's arrays at the stated contents and every counter back at zero. -/
theorem run_main : θ_run defs (onTc (τ := τ) (main (F := F))) (start₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m ρ)) (G' := G' (xs m ρ)) (u₀ := u₀)
    (hu₀ := by
      unfold u₀
      iintro Hu
      ihave H := (ownU_pair _ _) $$ Hu
      icases H with ⟨HP, HX⟩
      imod (fund_ring (xs m ρ)) $$ HX with HG
      imodintro
      isplitl [HP] <;> iassumption)
    (hglob := glob (xs m ρ))
    (hA := fun _ _ => rfl) (hpf := fun _ k => k.elim0)
    (X := start m ρ) (Y := fun c => unscopedSems0 c) (Z := fun _ => iprop(emp))
    (hX := start_intro m ρ) (hin := phi_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Value.lean ====
/-
The arrays after the run, and the result at exact arithmetic: with `x` cut into thirty-two bands of rows and the weights into
thirty-two bands of columns, each device ends with its band of columns of the product.
-/
module

public import proofs.«01_k».proof.Proof.Run
public import Idealize.ShloMosaic.Lib.Layout
public import Idealize.ShloMosaic.Lib.MatmulPlain
public import Idealize.ShloMosaic.Lib.StackMember
public import Idealize.ShloMosaic.Lib.Pipeline.Value

@[expose] public section

noncomputable section

namespace Cert.Ring

open Cert.KernelIdeal Cert.KernelIdeal.Gen
open Idealize.ShloMosaic Idealize.ShloMosaic.TcCoe Idealize.SL.Sem
open Idealize.ShloMosaic.ValueIdx
open scoped BigOperators

section Arrays

variable {F : FTy → Type} [FloatOps F] (m : (ℓ : Loc nD τ sig) → Buf (Elt F) ℓ) (ρ : Dev nD → PrngReg)

/-- The arguments end as they were. -/
theorem final_x (c : Dev nD) : finalA m ρ c (0 : Fin 3) = m ((c : Thread nD τ).loc main_arg0) :=
  (dats m ρ 0 c).arrAt_in (0 : Fin 3) rfl _
theorem final_w (c : Dev nD) : finalA m ρ c (1 : Fin 3) = m ((c : Thread nD τ).loc main_arg1) :=
  (dats m ρ 0 c).arrAt_in (1 : Fin 3) rfl _

/-- What is staged is the whole argument, -/
theorem xs_eq (c : Dev nD) : xs m ρ c = m ((c : Thread nD τ).loc main_arg0) :=
  Memref.read_access_unit_zero (Elt F) main_arg0 (funext fun a => by fin_cases a <;> decide) (fun a => by fin_cases a <;> decide) _
theorem ws_eq (c : Dev nD) : ws m ρ c = m ((c : Thread nD τ).loc main_arg1) :=
  Memref.read_access_unit_zero (Elt F) main_arg1 (funext fun a => by fin_cases a <;> decide) (fun a => by fin_cases a <;> decide) _

/-- and what is written back is the whole result. -/
theorem final_out (c : Dev nD) :
    finalA m ρ c (2 : Fin 3) = outOf (fun d : Dev nD => m ((d : Thread nD τ).loc main_arg0)) (m ((c : Thread nD τ).loc main_arg1)) := by
  have hX : xs m ρ = fun d : Dev nD => m ((d : Thread nD τ).loc main_arg0) := funext fun d => xs_eq m ρ d
  have hwrite : ∀ f u : S2048x64.Idx → Elt F .f32, (win0_2.blk (0 : Fin 1)).view.write (Elt F) f u Finset.univ = u :=
    fun f u => Memref.write_access_unit_zero_univ (Elt F) main_v1 (off := fun a => (win0_2.index (0 : Fin 1)) a * main_v1.ty.shape.size a)
      (funext fun a => by fin_cases a <;> decide) (fun a => by fin_cases a <;> decide) f u
  have hback : finalA m ρ c (2 : Fin 3) = outOf (xs m ρ) (ws m ρ c) :=
    ((dats m ρ 0 c).arrAt_succ (2 : Fin 3) t0_0).trans ((if_pos (by decide)).trans (hwrite _ _))
  rw [hback, hX, ws_eq]

end Arrays

/-! ## At exact arithmetic -/

/-- The product of one band of rows with the weights, at an index. -/
theorem band_apply (x : S64x2048.Idx → Elt Ideal .f32) (w : S2048x64.Idx → Elt Ideal .f32) (r l : Fin 64) :
    k0_pay2 (F := Ideal) (lead x) w (ix2 r l) = ∑ k : Fin 2048, x (ix2 r k) * w (ix2 k l) := by
  show FloatOps.matmul (DotDims.plain 64 2048 64) none (shapeCast S64x2048 (lead x) shapeCasts_S1x64x2048_S64x2048)
    (shapeCast S2048x64 w shapeCasts_S2048x64_S2048x64) (constant S64x64 .f32 0x00000000#32) (ix2 r l) = _
  rw [Ideal.matmul_plain_apply, shapeCast_self]
  have hz : (constant S64x64 .f32 0x00000000#32 : FVec Ideal S64x64 .f32) (ix2 r l) = 0 := Ideal.ofBits_zero_f32
  rw [hz, zero_add]
  refine Finset.sum_congr rfl fun k _ => ?_
  rw [shapeCast_1ab_ab_apply]
  rfl

/-- The bands of rows, each multiplied by a device's columns of the weights, make that device's columns of the product. -/
theorem out_eq (A B : FVec Ideal ⟨2, ![2048, 2048]⟩ .f32) (c : Dev nD) :
    outOf (F := Ideal) (fun d => Layout.block S64x2048 ⟨2, ![2048, 2048]⟩ 0 32 d A) (Layout.block S2048x64 ⟨2, ![2048, 2048]⟩ 1 32 c B)
      = Layout.block S2048x64 ⟨2, ![2048, 2048]⟩ 1 32 c (Host.dotGeneral (DotDims.plain 2048 2048 2048) none A B : FVec Ideal ⟨2, ![2048, 2048]⟩ .f32) := by
  funext i
  obtain ⟨r, l, rfl⟩ : ∃ (r : Fin 2048) (l : Fin 64), i = ix2 r l := ⟨i 0, i 1, eq_ix2 i⟩
  have hl : c.val * 64 + l.val < 2048 := by have : c.val < 32 := c.isLt; omega
  have hcol : ∀ (h : Layout.Tiles S2048x64 ⟨2, ![2048, 2048]⟩ 1 32) (k : Fin 2048),
      h.idx c (ix2 k l) = ix2 k (⟨c.val * 64 + l.val, hl⟩ : Fin 2048) := fun h k => by
    funext a; apply Fin.ext; fin_cases a <;> rfl
  have hrow : ∀ (h : Layout.Tiles S64x2048 ⟨2, ![2048, 2048]⟩ 0 32) (d : Fin 32) (s : Fin 64) (k : Fin 2048),
      d.val * 64 + s.val = r.val → h.idx d (ix2 s k) = ix2 r k := fun h d s k e => by
    funext a; apply Fin.ext; fin_cases a
    · exact e
    · rfl
  unfold outOf
  rw [band_apply, Layout.block_apply, hcol, StackMember.dotGeneral_plain_apply]
  refine Finset.sum_congr rfl fun k _ => ?_
  exact congrArg₂ (· * ·) (congrArg A (hrow _ _ _ k (by show r.val / 64 * 64 + r.val % 64 = r.val; omega))) (congrArg B (hcol _ k))

end Cert.Ring

end
-- ==== Proof.lean ====
/-
The claims of this certificate. The kernel's program and its idealization are one text at two readings of the floats, and one
theorem, `Cert.Ring.run_main`, says how that text runs at any reading; both frames read it at the arguments. The reference is
one product, whose run is given. For the equality at exact arithmetic, `Cert.Ring.out_eq` says that what a device is left with
is its band of columns of that product.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Lib.Quiescent

@[expose] public section

noncomputable section

namespace Cert.Proof

open Idealize.ShloMosaic Idealize.ShloMosaic.TcCoe Idealize.SL.Sem Cert.Ring

/-- The text both programs share, at any reading of the floats: it runs, keeps its arguments and leaves every counter at zero. -/
theorem keeps {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0 :=
  (θ_run Cert.KernelIdeal.defs _ _).mono
    (fun _ h => ⟨fun c => ⟨(h.1 c (0 : Fin 3)).trans (final_x m ρ c), (h.1 c (1 : Fin 3)).trans (final_w m ρ c)⟩, h.2⟩)
    (run_main m ρ)

section Text

variable {F : FTy → Type} [FloatOps F]

/-- The kernel's program and its idealization print one text: the same body table, -/
theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => rfl

/-- with the same pipeline around it. -/
theorem table_eq : @Cert.Kernel.defs F _ Cert.Kernel.Gen.facts = @Cert.KernelIdeal.defs F _ Cert.KernelIdeal.Gen.facts :=
  congrArg (Pipeline.defs Cert.KernelIdeal.pcfgs) bodies_eq

end Text

/-- At the machine's floats it is the kernel as printed, -/
theorem frame_kernel : Cert.quiescent_Kernel (hKernel := Cert.Kernel.Gen.facts) := fun m ρ _ => by
  rw [table_eq]
  exact keeps (F := Bits) m ρ

/-- at exact arithmetic its idealization. -/
theorem frame_ideal : Cert.quiescent_KernelIdeal (hKernelIdeal := Cert.KernelIdeal.Gen.facts) := fun m ρ _ => keeps (F := Ideal) m ρ

/-- The reference runs and keeps its arguments; it has no counters. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- At exact arithmetic each device ends with its columns of the reference's product. -/
theorem algebraic : Cert.algebraic_KernelIdeal_ReferenceIdeal
    (hKernelIdeal := Cert.KernelIdeal.Gen.facts) (hReferenceIdeal := Cert.ReferenceIdeal.Gen.facts) := by
  intro m ρ m' ρ' _ hin
  refine ⟨_, (θ_run Cert.KernelIdeal.defs _ _).mono
      (fun _ h c => ⟨(h.1 c (2 : Fin 3)).trans ((final_out m ρ c).trans ?_),
        (h.1 c (0 : Fin 3)).trans (final_x m ρ c), (h.1 c (1 : Fin 3)).trans (final_w m ρ c)⟩)
      (run_main (F := Ideal) m ρ),
    (θ_run Cert.ReferenceIdeal.defs _ _).mono (fun _ h => h 0) (Cert.ReferenceIdeal.Value.run (F := Ideal) m' ρ')⟩
  rw [show (fun d : Dev Cert.KernelIdeal.nD => m ((d : Thread Cert.KernelIdeal.nD Cert.KernelIdeal.τ).loc Cert.KernelIdeal.main_arg0)) = _ from
    funext fun d => (hin d).1, (hin c).2]
  exact out_eq _ _ c

theorem claim : Cert.Claim :=
  ⟨Cert.Kernel.Gen.facts, Cert.KernelIdeal.Gen.facts, Cert.ReferenceIdeal.Gen.facts,
    frame_kernel, frame_ideal, frame_ref, trivial, algebraic⟩

end Cert.Proof

end
